-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1152x3584 : Shape := ⟨3, ![12, 1152, 3584]⟩
abbrev S28x28 : Shape := ⟨2, ![28, 28]⟩
abbrev S128x128 : Shape := ⟨2, ![128, 128]⟩
abbrev S4096x448 : Shape := ⟨2, ![4096, 448]⟩
abbrev S4096 : Shape := ⟨1, ![4096]⟩
abbrev S13824x3584 : Shape := ⟨2, ![13824, 3584]⟩
abbrev S1x4096 : Shape := ⟨2, ![1, 4096]⟩
abbrev S13824x4096 : Shape := ⟨2, ![13824, 4096]⟩
abbrev S54x2x128 : Shape := ⟨3, ![54, 2, 128]⟩
abbrev S256x3584 : Shape := ⟨2, ![256, 3584]⟩
abbrev S256x4096 : Shape := ⟨2, ![256, 4096]⟩
abbrev S1x2x128 : Shape := ⟨3, ![1, 2, 128]⟩
abbrev S3584x4096 : Shape := ⟨2, ![3584, 4096]⟩
abbrev S224x672 : Shape := ⟨2, ![224, 672]⟩
abbrev S256x256 : Shape := ⟨2, ![256, 256]⟩
abbrev S256x128 : Shape := ⟨2, ![256, 128]⟩
abbrev S512x448 : Shape := ⟨2, ![512, 448]⟩
abbrev S448x512 : Shape := ⟨2, ![448, 512]⟩
abbrev S448x8x512 : Shape := ⟨3, ![448, 8, 512]⟩
abbrev S448x1x512 : Shape := ⟨3, ![448, 1, 512]⟩
abbrev S3584x512 : Shape := ⟨2, ![3584, 512]⟩
abbrev S224x28 : Shape := ⟨2, ![224, 28]⟩
abbrev S224x224 : Shape := ⟨2, ![224, 224]⟩
abbrev S128x256 : Shape := ⟨2, ![128, 256]⟩
abbrev S32x256 : Shape := ⟨2, ![32, 256]⟩
abbrev S448x256 : Shape := ⟨2, ![448, 256]⟩
abbrev S8x128 : Shape := ⟨2, ![8, 128]⟩
abbrev S224x128 : Shape := ⟨2, ![224, 128]⟩
abbrev S672x128 : Shape := ⟨2, ![672, 128]⟩
abbrev S672x512 : Shape := ⟨2, ![672, 512]⟩
abbrev S224x512 : Shape := ⟨2, ![224, 512]⟩
abbrev S28x8x128 : Shape := ⟨3, ![28, 8, 128]⟩
abbrev S8 : Shape := ⟨1, ![8]⟩
abbrev S8x1 : Shape := ⟨2, ![8, 1]⟩
abbrev S1x8x1 : Shape := ⟨3, ![1, 8, 1]⟩
abbrev S1x8x128 : Shape := ⟨3, ![1, 8, 128]⟩
abbrev S32x128 : Shape := ⟨2, ![32, 128]⟩
abbrev S1x128 : Shape := ⟨2, ![1, 128]⟩
abbrev S1x1x128 : Shape := ⟨3, ![1, 1, 128]⟩
abbrev S256x512 : Shape := ⟨2, ![256, 512]⟩
abbrev S1x512 : Shape := ⟨2, ![1, 512]⟩

abbrev nBuf : Space → Nat
  | .hbm => 10
  | .vmem => 19
  | .smem => 0
  | _ => 0

abbrev bufTy : (tb : Table) → Fin (tcTables nBuf tb) → BufTy
  | .hbm, ⟨0, _⟩ => ⟨S12x1152x3584, .bf16⟩
  | .hbm, ⟨1, _⟩ => ⟨S28x28, .bf16⟩
  | .hbm, ⟨2, _⟩ => ⟨S128x128, .bf16⟩
  | .hbm, ⟨3, _⟩ => ⟨S4096x448, .i32⟩
  | .hbm, ⟨4, _⟩ => ⟨S4096, .f32⟩
  | .hbm, ⟨5, _⟩ => ⟨S13824x3584, .bf16⟩
  | .hbm, ⟨6, _⟩ => ⟨S1x4096, .f32⟩
  | .hbm, ⟨7, _⟩ => ⟨S13824x4096, .bf16⟩
  | .hbm, ⟨8, _⟩ => ⟨S13824x3584, .i8⟩
  | .hbm, ⟨9, _⟩ => ⟨S54x2x128, .f32⟩
  | .local _ .vmem, ⟨0, _⟩ => ⟨S256x3584, .bf16⟩
  | .local _ .vmem, ⟨1, _⟩ => ⟨S256x3584, .bf16⟩
  | .local _ .vmem, ⟨2, _⟩ => ⟨S28x28, .bf16⟩
  | .local _ .vmem, ⟨3, _⟩ => ⟨S128x128, .bf16⟩
  | .local _ .vmem, ⟨4, _⟩ => ⟨S4096x448, .i32⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S256x3584, .i8⟩
  | .local _ .vmem, ⟨9, _⟩ => ⟨S256x3584, .i8⟩
  | .local _ .vmem, ⟨10, _⟩ => ⟨S1x2x128, .f32⟩
  | .local _ .vmem, ⟨11, _⟩ => ⟨S1x2x128, .f32⟩
  | .local _ .vmem, ⟨12, _⟩ => ⟨S3584x4096, .bf16⟩
  | .local _ .vmem, ⟨13, _⟩ => ⟨S224x672, .bf16⟩
  | .local _ .vmem, ⟨14, _⟩ => ⟨S256x256, .bf16⟩
  | .local _ .vmem, ⟨15, _⟩ => ⟨S256x3584, .bf16⟩
  | .local _ .vmem, ⟨16, _⟩ => ⟨S256x3584, .bf16⟩
  | .local _ .vmem, ⟨17, _⟩ => ⟨S256x128, .f32⟩
  | .local _ .vmem, ⟨18, _⟩ => ⟨S256x128, .f32⟩
  | _, _ => ⟨S12x1152x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![55], ![false]⟩

def k0_cond3 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c0_i32_8 : BitVec 32 := 0#32
  let v17 : BitVec 1 := Scalar.cmpi .sgt arg0 c0_i32_8
  let c54_i32 : BitVec 32 := 54#32
  let v18 : BitVec 1 := Scalar.cmpi .slt arg0 c54_i32
  let v19 : BitVec 1 := Scalar.andi v17 v18
  let v20 : BitVec 1 := Scalar.andi v13 v19
  let v21 : BitVec 32 := Scalar.extui v20
  let c0_i32_9 : BitVec 32 := 0#32
  let v22 : BitVec 1 := Scalar.cmpi .ne v21 c0_i32_9
  v22

def k0_cond4 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v_true : BitVec 1 := 1#1
  let v23 : BitVec 1 := Scalar.xori v13 v_true
  let c54_i32_10 : BitVec 32 := 54#32
  let v24 : BitVec 1 := Scalar.cmpi .slt arg0 c54_i32_10
  let v25 : BitVec 1 := Scalar.andi v23 v24
  let v26 : BitVec 32 := Scalar.extui v25
  let c0_i32_11 : BitVec 32 := 0#32
  let v27 : BitVec 1 := Scalar.cmpi .ne v26 c0_i32_11
  v27

def k0_cond5 (i : grid0.Coords) : BitVec 1 :=
  let arg0 : BitVec 32 := BitVec.ofNat 32 (i 0).val
  let c54_i32_12 : BitVec 32 := 54#32
  let v28 : BitVec 1 := Scalar.cmpi .eq arg0 c54_i32_12
  let v29 : BitVec 32 := Scalar.extui v28
  let c0_i32_13 : BitVec 32 := 0#32
  let v30 : BitVec 1 := Scalar.cmpi .ne v29 c0_i32_13
  v30

def k0_cond2 (i : grid0.Coords) : BitVec 1 :=
  let arg0 : BitVec 32 := BitVec.ofNat 32 (i 0).val
  let c0_i32_6 : BitVec 32 := 0#32
  let v14 : BitVec 1 := Scalar.cmpi .eq arg0 c0_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let c53_i32 : BitVec 32 := 53#32
  let v0 : BitVec 32 := Scalar.minsi arg0 c53_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c53_i32 : BitVec 32 := 53#32
  let v0 : BitVec 32 := Scalar.minsi arg0 c53_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c53_i32 : BitVec 32 := 53#32
  let v0 : BitVec 32 := Scalar.minsi arg0 c53_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x28 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x448 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3584 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S12x1152x3584 : Shape := ⟨3, ![12, 1152, 3584]⟩
abbrev S28x28 : Shape := ⟨2, ![28, 28]⟩
abbrev S128x128 : Shape := ⟨2, ![128, 128]⟩
abbrev S4096x448 : Shape := ⟨2, ![4096, 448]⟩
abbrev S4096 : Shape := ⟨1, ![4096]⟩
abbrev S12x1152x28x128 : Shape := ⟨4, ![12, 1152, 28, 128]⟩
abbrev S28x12x1152x128 : Shape := ⟨4, ![28, 12, 1152, 128]⟩
abbrev S_ : Shape := ⟨0, ![]⟩
abbrev S13824x3584 : Shape := ⟨2, ![13824, 3584]⟩
abbrev S8 : Shape := ⟨1, ![8]⟩
abbrev S4096x448x1 : Shape := ⟨3, ![4096, 448, 1]⟩
abbrev S1x1x8 : Shape := ⟨3, ![1, 1, 8]⟩
abbrev S4096x448x8 : Shape := ⟨3, ![4096, 448, 8]⟩
abbrev S4096x3584 : Shape := ⟨2, ![4096, 3584]⟩
abbrev S1x4096 : Shape := ⟨2, ![1, 4096]⟩
abbrev S13824x4096 : Shape := ⟨2, ![13824, 4096]⟩
abbrev S54x2x128 : Shape := ⟨3, ![54, 2, 128]⟩
abbrev S13824 : Shape := ⟨1, ![13824]⟩
abbrev S13824x1 : Shape := ⟨2, ![13824, 1]⟩

abbrev nBuf : Space → Nat
  | .hbm => 29
  | .vmem => 6
  | .smem => 0
  | _ => 0

abbrev bufTy : (tb : Table) → Fin (tcTables nBuf tb) → BufTy
  | .hbm, ⟨0, _⟩ => ⟨S12x1152x3584, .bf16⟩
  | .hbm, ⟨1, _⟩ => ⟨S28x28, .bf16⟩
  | .hbm, ⟨2, _⟩ => ⟨S128x128, .bf16⟩
  | .hbm, ⟨3, _⟩ => ⟨S4096x448, .i32⟩
  | .hbm, ⟨4, _⟩ => ⟨S4096, .f32⟩
  | .hbm, ⟨5, _⟩ => ⟨S12x1152x28x128, .bf16⟩
  | .hbm, ⟨6, _⟩ => ⟨S12x1152x28x128, .f32⟩
  | .hbm, ⟨7, _⟩ => ⟨S28x28, .f32⟩
  | .hbm, ⟨8, _⟩ => ⟨S28x12x1152x128, .f32⟩
  | .hbm, ⟨9, _⟩ => ⟨S12x1152x28x128, .f32⟩
  | .hbm, ⟨10, _⟩ => ⟨S_, .f32⟩
  | .hbm, ⟨11, _⟩ => ⟨S12x1152x28x128, .f32⟩
  | .hbm, ⟨12, _⟩ => ⟨S12x1152x28x128, .f32⟩
  | .hbm, ⟨13, _⟩ => ⟨S13824x3584, .f32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S4096x448x1, .i32⟩
  | .hbm, ⟨19, _⟩ => ⟨S1x1x8, .i32⟩
  | .hbm, ⟨20, _⟩ => ⟨S4096x448x8, .i32⟩
  | .hbm, ⟨21, _⟩ => ⟨S4096x448x8, .i32⟩
  | .hbm, ⟨22, _⟩ => ⟨S4096x448x8, .i32⟩
  | .hbm, ⟨23, _⟩ => ⟨S4096x448x8, .i32⟩
  | .hbm, ⟨24, _⟩ => ⟨S4096x3584, .i32⟩
  | .hbm, ⟨25, _⟩ => ⟨S1x4096, .f32⟩
  | .hbm, ⟨26, _⟩ => ⟨S13824x4096, .bf16⟩
  | .hbm, ⟨27, _⟩ => ⟨S13824x3584, .i8⟩
  | .hbm, ⟨28, _⟩ => ⟨S54x2x128, .f32⟩
  | .local _ .vmem, ⟨0, _⟩ => ⟨S13824x3584, .f32⟩
  | .local _ .vmem, ⟨1, _⟩ => ⟨S4096x3584, .i32⟩
  | .local _ .vmem, ⟨2, _⟩ => ⟨S1x4096, .f32⟩
  | .local _ .vmem, ⟨3, _⟩ => ⟨S13824x4096, .bf16⟩
  | .local _ .vmem, ⟨4, _⟩ => ⟨S13824x3584, .i8⟩
  | .local _ .vmem, ⟨5, _⟩ => ⟨S54x2x128, .f32⟩
  | _, _ => ⟨S12x1152x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S13824x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x3584 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13824x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S13824x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S54x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.FrameKernel.Runs.lean ====
/- What the body is called with at each point: its conditions as facts about the point, and its buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384
set_option maxHeartbeats 20000000

noncomputable section

namespace Cert.Kernel.Framed

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 55 = 0 :=
  (fun t => by
    have ht : t.val < 55 := Nat.lt_of_lt_of_eq t.isLt N_0
    have e0 : (grid0.coords t 0).val = t.val / 1 % 55 := Pipeline.Grid.coords_val t 0 (by decide) rfl
    simp only [cond0_0, e0]
    word_cmp
   : ∀ t : Fin grid0.N, cond0_0 (grid0.coords t) ↔ t.val % 55 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 55 = 0 :=
  (fun t => by
    have ht : t.val < 55 := Nat.lt_of_lt_of_eq t.isLt N_0
    have e0 : (grid0.coords t 0).val = t.val / 1 % 55 := Pipeline.Grid.coords_val t 0 (by decide) rfl
    simp only [cond0_1, k0_cond2, e0]
    word_cmp
   : ∀ t : Fin grid0.N, cond0_1 (grid0.coords t) ↔ t.val % 55 = 0)

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24, 26, 28, 30, 32, 34, 36, 38, 40, 42, 44, 46, 48, 50 and 52 only — decided over the grid. -/
theorem hcond0_2 : ∀ t : Fin cfg0.N, cond0_2 (grid0.coords t) ↔ (t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52) :=
  (by decide +kernel : ∀ t : Fin grid0.N, cond0_2 (grid0.coords t) ↔ (t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52))

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin cfg0.N, cond0_4 (grid0.coords t) ↔ t.val % 55 = 54 :=
  (fun t => by
    have ht : t.val < 55 := Nat.lt_of_lt_of_eq t.isLt N_0
    have e0 : (grid0.coords t 0).val = t.val / 1 % 55 := Pipeline.Grid.coords_val t 0 (by decide) rfl
    simp only [cond0_4, k0_cond5, e0]
    word_cmp
   : ∀ t : Fin grid0.N, cond0_4 (grid0.coords t) ↔ t.val % 55 = 54)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S28x28 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x448 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3584 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3584x4096 .bf16 := Memref.whole cc0_scratch0
abbrev scM0_1 : Memref sig .tc .vmem S224x672 .bf16 := Memref.whole cc0_scratch1
abbrev scM0_2 : Memref sig .tc .vmem S256x256 .bf16 := Memref.whole cc0_scratch2
abbrev scM0_3 : Memref sig .tc .vmem S256x3584 .bf16 := Memref.whole cc0_scratch3
abbrev scM0_4 : Memref sig .tc .vmem S256x3584 .bf16 := Memref.whole cc0_scratch4
abbrev scM0_5 : Memref sig .tc .vmem S256x128 .f32 := Memref.whole cc0_scratch5
abbrev scM0_6 : Memref sig .tc .vmem S256x128 .f32 := Memref.whole cc0_scratch6
/-- The scratch `arg10` the kernel carries between points, as a view: what it holds is stated through it. -/
abbrev VS0_1 : View sig .tc .vmem S224x672 .bf16 := scM0_1.view
/-- The scratch `arg11` the kernel carries between points, as a view: what it holds is stated through it. -/
abbrev VS0_2 : View sig .tc .vmem S256x256 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Framed

end
-- ==== Proof.FrameKernel.RunA.lean ====
/- The run of the body at the first point. -/
module

public import proofs.«01_k».proof.Proof.FrameKernel.Runs

@[expose] public section

-- membership in a rectangle of production extents (`View.cover_of_tiled`): the elaborator's structural look
-- recurses once per coordinate of the long axes
set_option maxRecDepth 16384
set_option maxHeartbeats 20000000

noncomputable section

namespace Cert.Kernel.Framed

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6740000 in
/-- What the body's stores leave in each output's staging memref, as pieces (last first) IN CASE A (`scf.if` 0 taken, `scf.if` 1 taken, `scf.if` 2 not taken, `scf.if` 3 not taken, `scf.if` 4 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_A (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : cond0_0 i) (hc1 : cond0_1 i) (hc2 : ¬cond0_2 i) (hc3 : ¬cond0_3 i) (hc4 : ¬cond0_4 i)
    (x0 : Vec F S256x3584 .bf16) (x1 : Vec F S28x28 .bf16) (x2 : Vec F S128x128 .bf16) (x3 : Vec F S4096x448 .i32) (x4 : Vec F S1x4096 .f32) :
    Σ' (LS1 : List (View.Piece (Elt F) S224x672 .bf16)), { LS2 : List (View.Piece (Elt F) S256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_quarot_down_eq_skeleton]; unfold cc0_quarot_down_skel
    simp only [k0_part1_eq_skeleton, k0_part2_eq_skeleton, k0_part3_eq_skeleton, k0_part4_eq_skeleton, k0_part5_eq_skeleton, k0_part131_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part132_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Framed

end
-- ==== Proof.FrameKernel.RunB.lean ====
/- The run of the body at the odd points. -/
module

public import proofs.«01_k».proof.Proof.FrameKernel.RunA

@[expose] public section

-- membership in a rectangle of production extents (`View.cover_of_tiled`): the elaborator's structural look
-- recurses once per coordinate of the long axes
set_option maxRecDepth 16384
set_option maxHeartbeats 20000000

noncomputable section

namespace Cert.Kernel.Framed

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6756000 in
/-- What the body's stores leave in each output's staging memref, as pieces (last first) IN CASE B (`scf.if` 0 not taken, `scf.if` 1 not taken, `scf.if` 2 not taken, `scf.if` 3 taken, `scf.if` 4 not taken: points 1, 3, … 53: 27 of 55), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_B (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : ¬cond0_2 i) (hc3 : cond0_3 i) (hc4 : ¬cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) :
    Σ' (LS1 : List (View.Piece (Elt F) S224x672 .bf16)), { LS2 : List (View.Piece (Elt F) S256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], fun E K => ?run⟩
  case run =>
    simp only [cc0_quarot_down_eq_skeleton]; unfold cc0_quarot_down_skel
    simp only [k0_part391_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part392_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1; obtain rfl := harg11.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]
    · iexists _; isplitr; · ipureintro; exact harg11.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Framed

end
-- ==== Proof.FrameKernel.RunC.lean ====
/- The run of the body at the even points between. -/
module

public import proofs.«01_k».proof.Proof.FrameKernel.RunB

@[expose] public section

-- membership in a rectangle of production extents (`View.cover_of_tiled`): the elaborator's structural look
-- recurses once per coordinate of the long axes
set_option maxRecDepth 16384
set_option maxHeartbeats 20000000

noncomputable section

namespace Cert.Kernel.Framed

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6756000 in
/-- What the body's stores leave in each output's staging memref, as pieces (last first) IN CASE C (`scf.if` 0 not taken, `scf.if` 1 not taken, `scf.if` 2 taken, `scf.if` 3 not taken, `scf.if` 4 not taken: points 2, 4, … 52: 26 of 55), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_C (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : cond0_2 i) (hc3 : ¬cond0_3 i) (hc4 : ¬cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) :
    Σ' (LS1 : List (View.Piece (Elt F) S224x672 .bf16)), { LS2 : List (View.Piece (Elt F) S256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], fun E K => ?run⟩
  case run =>
    simp only [cc0_quarot_down_eq_skeleton]; unfold cc0_quarot_down_skel
    simp only [k0_part261_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part262_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1; obtain rfl := harg11.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]
    · iexists _; isplitr; · ipureintro; exact harg11.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Framed

end
-- ==== Proof.FrameKernel.RunD.lean ====
/- The run of the body at the last point. -/
module

public import proofs.«01_k».proof.Proof.FrameKernel.RunC

@[expose] public section

-- membership in a rectangle of production extents (`View.cover_of_tiled`): the elaborator's structural look
-- recurses once per coordinate of the long axes
set_option maxRecDepth 16384
set_option maxHeartbeats 20000000

noncomputable section

namespace Cert.Kernel.Framed

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 not taken, `scf.if` 4 taken: points 54), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_D (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : ¬cond0_2 i) (hc3 : ¬cond0_3 i) (hc4 : cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) :
    Σ' (LS1 : List (View.Piece (Elt F) S224x672 .bf16)), { LS2 : List (View.Piece (Elt F) S256x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], fun E K => ?run⟩
  case run =>
    simp only [cc0_quarot_down_eq_skeleton]; unfold cc0_quarot_down_skel
    simp only [k0_part393_eq_skeleton, k0_part394_eq_skeleton, k0_part395_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1; obtain rfl := harg11.eq_unread hfs2
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]
    · iexists _; isplitr; · ipureintro; exact harg11.read_unread _
      iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Framed

end
-- ==== Proof.FrameKernel.lean ====
/- The frame of Kernel: the proof data with the outputs forgotten and the two carried buffers named, the body's
   obligation at every point from its run in each case, and the launch. Each definition elaborates with more
   steps than the default allows. -/
module

public import proofs.«01_k».proof.Proof.FrameKernel.RunD
public import Idealize.ShloMosaic.Lib.Claim

@[expose] public section

-- membership in a rectangle of production extents (`View.cover_of_tiled`): the elaborator's structural look
-- recurses once per coordinate of the long axes
set_option maxRecDepth 16384
set_option maxHeartbeats 20000000

noncomputable section

namespace Cert.Kernel.Framed

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 1 piece of `S224x672` tiling it (Lib/Ring.lean `Piece.tiledL`). -/
theorem scover0_A_1 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : cond0_0 i) (hc1 : cond0_1 i) (hc2 : ¬cond0_2 i) (hc3 : ¬cond0_3 i) (hc4 : ¬cond0_4 i)
    (x0 : Vec F S256x3584 .bf16) (x1 : Vec F S28x28 .bf16) (x2 : Vec F S128x128 .bf16) (x3 : Vec F S4096x448 .i32) (x4 : Vec F S1x4096 .f32) (y : S224x672.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4).1 S224x672.size (by sl_kernel_rfl) y

/-- What case A leaves in scratch `arg10`: its pieces read back over junk. -/
def sout0_A_1 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : cond0_0 i) (hc1 : cond0_1 i) (hc2 : ¬cond0_2 i) (hc3 : ¬cond0_3 i) (hc4 : ¬cond0_4 i)
    (x0 : Vec F S256x3584 .bf16) (x1 : Vec F S28x28 .bf16) (x2 : Vec F S128x128 .bf16) (x3 : Vec F S4096x448 .i32) (x4 : Vec F S1x4096 .f32) : Vec F S224x672 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4).1)

/-- Case A's pieces for scratch `arg11`, which the kernel carries between points, cover it: 1 piece of `S256x256` tiling it (Lib/Ring.lean `Piece.tiledL`). -/
theorem scover0_A_2 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : cond0_0 i) (hc1 : cond0_1 i) (hc2 : ¬cond0_2 i) (hc3 : ¬cond0_3 i) (hc4 : ¬cond0_4 i)
    (x0 : Vec F S256x3584 .bf16) (x1 : Vec F S28x28 .bf16) (x2 : Vec F S128x128 .bf16) (x3 : Vec F S4096x448 .i32) (x4 : Vec F S1x4096 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4).2.1 S256x256.size (by sl_kernel_rfl) y

/-- What case A leaves in scratch `arg11`: its pieces read back over junk. -/
def sout0_A_2 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : cond0_0 i) (hc1 : cond0_1 i) (hc2 : ¬cond0_2 i) (hc3 : ¬cond0_3 i) (hc4 : ¬cond0_4 i)
    (x0 : Vec F S256x3584 .bf16) (x1 : Vec F S28x28 .bf16) (x2 : Vec F S128x128 .bf16) (x3 : Vec F S4096x448 .i32) (x4 : Vec F S1x4096 .f32) : Vec F S256x256 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4).2.1)

/-- Case B stores nothing into scratch `arg10`: it holds what the point before left. -/
def sout0_B_1 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : ¬cond0_2 i) (hc3 : cond0_3 i) (hc4 : ¬cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) : Vec F S224x672 .bf16 := xs1

/-- Case B stores nothing into scratch `arg11`: it holds what the point before left. -/
def sout0_B_2 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : ¬cond0_2 i) (hc3 : cond0_3 i) (hc4 : ¬cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) : Vec F S256x256 .bf16 := xs2

/-- Case C stores nothing into scratch `arg10`: it holds what the point before left. -/
def sout0_C_1 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : cond0_2 i) (hc3 : ¬cond0_3 i) (hc4 : ¬cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) : Vec F S224x672 .bf16 := xs1

/-- Case C stores nothing into scratch `arg11`: it holds what the point before left. -/
def sout0_C_2 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : cond0_2 i) (hc3 : ¬cond0_3 i) (hc4 : ¬cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) : Vec F S256x256 .bf16 := xs2

/-- Case D stores nothing into scratch `arg10`: it holds what the point before left. -/
def sout0_D_1 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : ¬cond0_2 i) (hc3 : ¬cond0_3 i) (hc4 : cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) : Vec F S224x672 .bf16 := xs1

/-- Case D stores nothing into scratch `arg11`: it holds what the point before left. -/
def sout0_D_2 (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole) (hc0 : ¬cond0_0 i) (hc1 : ¬cond0_1 i) (hc2 : ¬cond0_2 i) (hc3 : ¬cond0_3 i) (hc4 : cond0_4 i)
    (x0 : Vec F S256x3584 .bf16) (x1 : Vec F S28x28 .bf16) (x2 : Vec F S128x128 .bf16) (x3 : Vec F S4096x448 .i32) (x4 : Vec F S1x4096 .f32) (xs1 : Vec F S224x672 .bf16) (xs2 : Vec F S256x256 .bf16) : Vec F S256x256 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S224x672 .bf16 × Vec F S256x256 .bf16
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 55 = 0 then
      if h1 : (n + 1) % 55 = 0 then
        if h2 : ((n + 1) % 55 = 2 ∨ (n + 1) % 55 = 4 ∨ (n + 1) % 55 = 6 ∨ (n + 1) % 55 = 8 ∨ (n + 1) % 55 = 10 ∨ (n + 1) % 55 = 12 ∨ (n + 1) % 55 = 14 ∨ (n + 1) % 55 = 16 ∨ (n + 1) % 55 = 18 ∨ (n + 1) % 55 = 20 ∨ (n + 1) % 55 = 22 ∨ (n + 1) % 55 = 24 ∨ (n + 1) % 55 = 26 ∨ (n + 1) % 55 = 28 ∨ (n + 1) % 55 = 30 ∨ (n + 1) % 55 = 32 ∨ (n + 1) % 55 = 34 ∨ (n + 1) % 55 = 36 ∨ (n + 1) % 55 = 38 ∨ (n + 1) % 55 = 40 ∨ (n + 1) % 55 = 42 ∨ (n + 1) % 55 = 44 ∨ (n + 1) % 55 = 46 ∨ (n + 1) % 55 = 48 ∨ (n + 1) % 55 = 50 ∨ (n + 1) % 55 = 52) then
          False.elim (by have hN : n + 1 < 55 := lt_of_lt_of_eq hn (show cfg0.N = 55 from N_0); omega)
        else
          if h3 : (n + 1) % 2 = 1 then
            False.elim (by have hN : n + 1 < 55 := lt_of_lt_of_eq hn (show cfg0.N = 55 from N_0); omega)
          else
            if h4 : (n + 1) % 55 = 54 then
              False.elim (by have hN : n + 1 < 55 := lt_of_lt_of_eq hn (show cfg0.N = 55 from N_0); omega)
            else
              (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 55 := lt_of_lt_of_eq hn (show cfg0.N = 55 from N_0); omega)
    else
      if h1 : (n + 1) % 55 = 0 then
        False.elim (by have hN : n + 1 < 55 := lt_of_lt_of_eq hn (show cfg0.N = 55 from N_0); omega)
      else
        if h2 : ((n + 1) % 55 = 2 ∨ (n + 1) % 55 = 4 ∨ (n + 1) % 55 = 6 ∨ (n + 1) % 55 = 8 ∨ (n + 1) % 55 = 10 ∨ (n + 1) % 55 = 12 ∨ (n + 1) % 55 = 14 ∨ (n + 1) % 55 = 16 ∨ (n + 1) % 55 = 18 ∨ (n + 1) % 55 = 20 ∨ (n + 1) % 55 = 22 ∨ (n + 1) % 55 = 24 ∨ (n + 1) % 55 = 26 ∨ (n + 1) % 55 = 28 ∨ (n + 1) % 55 = 30 ∨ (n + 1) % 55 = 32 ∨ (n + 1) % 55 = 34 ∨ (n + 1) % 55 = 36 ∨ (n + 1) % 55 = 38 ∨ (n + 1) % 55 = 40 ∨ (n + 1) % 55 = 42 ∨ (n + 1) % 55 = 44 ∨ (n + 1) % 55 = 46 ∨ (n + 1) % 55 = 48 ∨ (n + 1) % 55 = 50 ∨ (n + 1) % 55 = 52) then
          if h3 : (n + 1) % 2 = 1 then
            False.elim (by have hN : n + 1 < 55 := lt_of_lt_of_eq hn (show cfg0.N = 55 from N_0); omega)
          else
            if h4 : (n + 1) % 55 = 54 then
              False.elim (by have hN : n + 1 < 55 := lt_of_lt_of_eq hn (show cfg0.N = 55 from N_0); omega)
            else
              (sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)
        else
          if h3 : (n + 1) % 2 = 1 then
            if h4 : (n + 1) % 55 = 54 then
              False.elim (by have hN : n + 1 < 55 := lt_of_lt_of_eq hn (show cfg0.N = 55 from N_0); omega)
            else
              (sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)
          else
            if h4 : (n + 1) % 55 = 54 then
              (sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)
            else
              False.elim (by have hN : n + 1 < 55 := lt_of_lt_of_eq hn (show cfg0.N = 55 from N_0); omega)

/-- `outsAt0` at a point of case A: that case's contents. -/
theorem outsAt0_A (c : Dev nD) (t : Fin cfg0.N) (h0 : t.val % 55 = 0) (h1 : t.val % 55 = 0) (h2 : ¬(t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52)) (h3 : ¬t.val % 2 = 1) (h4 : ¬t.val % 55 = 54) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans ((dif_neg h3).trans ((dif_neg h4).trans rfl))))

/-- `outsAt0` at a point of case B: that case's contents, over what the point before left. -/
theorem outsAt0_B (c : Dev nD) (t : Fin cfg0.N) (h0 : ¬t.val % 55 = 0) (h1 : ¬t.val % 55 = 0) (h2 : ¬(t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52)) (h3 : t.val % 2 = 1) (h4 : ¬t.val % 55 = 54) :
    outsAt0 m c t.val t.isLt = (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-- `outsAt0` at a point of case C: that case's contents, over what the point before left. -/
theorem outsAt0_C (c : Dev nD) (t : Fin cfg0.N) (h0 : ¬t.val % 55 = 0) (h1 : ¬t.val % 55 = 0) (h2 : (t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52)) (h3 : ¬t.val % 2 = 1) (h4 : ¬t.val % 55 = 54) :
    outsAt0 m c t.val t.isLt = (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case D: that case's contents, over what the point before left. -/
theorem outsAt0_D (c : Dev nD) (t : Fin cfg0.N) (h0 : ¬t.val % 55 = 0) (h1 : ¬t.val % 55 = 0) (h2 : ¬(t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52)) (h3 : ¬t.val % 2 = 1) (h4 : t.val % 55 = 54) :
    outsAt0 m c t.val t.isLt = (sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ owns (c : Thread nD τ) scM0_2 fullShare ((outsAt0 m c (n - 1) (by omega)).2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 55 := lt_of_lt_of_eq t.isLt (show cfg0.N = 55 from N_0)
  by_cases h0 : t.val % 55 = 0
  · by_cases h1 : t.val % 55 = 0
    · by_cases h2 : (t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52)
      · exfalso; omega
      · by_cases h3 : t.val % 2 = 1
        · exfalso; omega
        · by_cases h4 : t.val % 55 = 54
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · rw [PhiS_castSucc m c t, PhiS_zero m c _ _ hz, PhiA0_eq]
              rw [outsAt0_A m c t h0 h1 h2 h3 h4]
              unfold sout0_A_1 sout0_A_2; (try dsimp only)
              iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (iblk m c 0 t) (iblk m c 1 t) (iblk m c 2 t) (iblk m c 3 t) (iblk m c 4 t)).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              iintro ⟨H0, H1, H2, H3, H4, H5, H6, H7, HS0, ⟨%es1, HS1⟩, ⟨%es2, HS2⟩, HS3, HS4, HS5, HS6⟩
              isplitl [HS0 HS1 HS2 HS3 HS4 HS5 HS6 Hg]
              · isplitl [HS0 HS1 HS2 HS3 HS4 HS5 HS6]
                · isplitl [HS0]
                  · iexact HS0
                  isplitl [HS1]
                  · unfold owns; iexists _; isplitr
                    swap; · iexact HS1
                    ipureintro; exact View.read_writes_of_cover _ _ _ _ _ (scover0_A_1 c _ _ _ _ _ _ _ _ _ _ _ _ _ _ _ _ _ _ _ _ _ _ _ _ _ _ _ _ _ _ _ _ _ _ _ _ _ _ _ _ _)
                  isplitl [HS2]
                  · unfold owns; iexists _; isplitr
                    swap; · iexact HS2
                    ipureintro; exact View.read_writes_of_cover _ _ _ _ _ (scover0_A_2 c _ _ _ _ _ _ _ _ _ _ _ _ _ _ _ _ _ _ _ _ _ _ _ _ _ _ _ _ _ _ _ _ _ _ _ _ _ _ _ _ _)
                  isplitl [HS3]
                  · iexact HS3
                  isplitl [HS4]
                  · iexact HS4
                  isplitl [HS5]
                  · iexact HS5
                  iexact HS6
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
            · exfalso; have hN : t.val < 55 := lt_of_lt_of_eq t.isLt (show cfg0.N = 55 from N_0); omega
    · exfalso; omega
  · by_cases h1 : t.val % 55 = 0
    · exfalso; omega
    · by_cases h2 : (t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52)
      · by_cases h3 : t.val % 2 = 1
        · exfalso; omega
        · by_cases h4 : t.val % 55 = 54
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 55 := lt_of_lt_of_eq t.isLt (show cfg0.N = 55 from N_0); omega
            · rw [PhiS_castSucc m c t, PhiS_pos m c _ _ hz]
              rw [outsAt0_C m c t h0 h1 h2 h3 h4]
              unfold sout0_C_1 sout0_C_2; (try dsimp only)
              iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t) _ _).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              iintro ⟨H0, H1, H2, H3, H4, H5, H6, H7, HS0, HS1, HS2, HS3, HS4, HS5, HS6⟩
              isplitl [HS0 HS1 HS2 HS3 HS4 HS5 HS6 Hg]
              · isplitl [HS0 HS1 HS2 HS3 HS4 HS5 HS6]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · iexact HS5
                  iexact HS6
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
      · by_cases h3 : t.val % 2 = 1
        · by_cases h4 : t.val % 55 = 54
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 55 := lt_of_lt_of_eq t.isLt (show cfg0.N = 55 from N_0); omega
            · rw [PhiS_castSucc m c t, PhiS_pos m c _ _ hz]
              rw [outsAt0_B m c t h0 h1 h2 h3 h4]
              unfold sout0_B_1 sout0_B_2; (try dsimp only)
              iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) _ _).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              iintro ⟨H0, H1, H2, H3, H4, H5, H6, H7, HS0, HS1, HS2, HS3, HS4, HS5, HS6⟩
              isplitl [HS0 HS1 HS2 HS3 HS4 HS5 HS6 Hg]
              · isplitl [HS0 HS1 HS2 HS3 HS4 HS5 HS6]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · iexact HS5
                  iexact HS6
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
        · by_cases h4 : t.val % 55 = 54
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 55 := lt_of_lt_of_eq t.isLt (show cfg0.N = 55 from N_0); omega
            · rw [PhiS_castSucc m c t, PhiS_pos m c _ _ hz]
              rw [outsAt0_D m c t h0 h1 h2 h3 h4]
              unfold sout0_D_1 sout0_D_2; (try dsimp only)
              iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_D c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (iblk m c 0 t) (iblk m c 1 t) (iblk m c 2 t) (iblk m c 3 t) (iblk m c 4 t) _ _).2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              iintro ⟨H0, H1, H2, H3, H4, H5, H6, H7, HS0, HS1, HS2, HS3, HS4, HS5, HS6⟩
              isplitl [HS0 HS1 HS2 HS3 HS4 HS5 HS6 Hg]
              · isplitl [HS0 HS1 HS2 HS3 HS4 HS5 HS6]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · iexact HS5
                  iexact HS6
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
          · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexists _; iexact HS1
    isplitl [HS2]
    · iexists _; iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 55 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Framed

end
-- ==== Proof.Run.Base.lean ====
/- The branch conditions of the body in closed form over the grid points, and short names for the
   memrefs that the body is given at a point. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 55 = 0 :=
  (fun t => by
    have ht : t.val < 55 := Nat.lt_of_lt_of_eq t.isLt N_0
    have e0 : (grid0.coords t 0).val = t.val / 1 % 55 := Pipeline.Grid.coords_val t 0 (by decide) rfl
    simp only [cond0_0, e0]
    word_cmp
   : ∀ t : Fin grid0.N, cond0_0 (grid0.coords t) ↔ t.val % 55 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 55 = 0 :=
  (fun t => by
    have ht : t.val < 55 := Nat.lt_of_lt_of_eq t.isLt N_0
    have e0 : (grid0.coords t 0).val = t.val / 1 % 55 := Pipeline.Grid.coords_val t 0 (by decide) rfl
    simp only [cond0_1, k0_cond2, e0]
    word_cmp
   : ∀ t : Fin grid0.N, cond0_1 (grid0.coords t) ↔ t.val % 55 = 0)

/-- The condition of the body's `scf.if` 2 (`k0_h3`), from the grid coordinates (the skeleton's scalar
    chain substituted). -/
abbrev cond0_2 (i : grid0.Coords) : Prop := k0_cond3 i = 1#1
/-- It holds at points 2, 4, 6, 8, 10, 12, 14, 16, 18, 20, 22, 24, 26, 28, 30, 32, 34, 36, 38, 40, 42, 44, 46, 48, 50 and 52 only — decided over the grid. -/
theorem hcond0_2 : ∀ t : Fin cfg0.N, cond0_2 (grid0.coords t) ↔ (t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52) :=
  (by decide +kernel : ∀ t : Fin grid0.N, cond0_2 (grid0.coords t) ↔ (t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52))

/-- The condition of the body's `scf.if` 3 (`k0_h4`), from the grid coordinates (the skeleton's scalar
    chain substituted). -/
abbrev cond0_3 (i : grid0.Coords) : Prop := k0_cond4 i = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at the last point only — by arithmetic of the point. -/
theorem hcond0_4 : ∀ t : Fin cfg0.N, cond0_4 (grid0.coords t) ↔ t.val % 55 = 54 :=
  (fun t => by
    have ht : t.val < 55 := Nat.lt_of_lt_of_eq t.isLt N_0
    have e0 : (grid0.coords t 0).val = t.val / 1 % 55 := Pipeline.Grid.coords_val t 0 (by decide) rfl
    simp only [cond0_4, k0_cond5, e0]
    word_cmp
   : ∀ t : Fin grid0.N, cond0_4 (grid0.coords t) ↔ t.val % 55 = 54)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S28x28 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x448 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3584 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3584x4096 .bf16 := Memref.whole cc0_scratch0
abbrev scM0_1 : Memref sig .tc .vmem S224x672 .bf16 := Memref.whole cc0_scratch1
abbrev scM0_2 : Memref sig .tc .vmem S256x256 .bf16 := Memref.whole cc0_scratch2
abbrev scM0_3 : Memref sig .tc .vmem S256x3584 .bf16 := Memref.whole cc0_scratch3
abbrev scM0_4 : Memref sig .tc .vmem S256x3584 .bf16 := Memref.whole cc0_scratch4
abbrev scM0_5 : Memref sig .tc .vmem S256x128 .f32 := Memref.whole cc0_scratch5
abbrev scM0_6 : Memref sig .tc .vmem S256x128 .f32 := Memref.whole cc0_scratch6
/-- The scratch `arg10` the kernel carries between points, as a view: what it holds is stated through it. -/
abbrev VS0_1 : View sig .tc .vmem S224x672 .bf16 := scM0_1.view
/-- The scratch `arg11` the kernel carries between points, as a view: what it holds is stated through it. -/
abbrev VS0_2 : View sig .tc .vmem S256x256 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Run

end
-- ==== Proof.Run.RunA.lean ====
/- At the first point the body fills the weight, the block rotation and the small rotation, then rotates and quantises tile 0.
   The run of the body is found by execution, and with it the pieces that each buffer is written with. -/
module

public import proofs.«01_k».proof.Proof.Run.Base

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 8000000 in
/-- The pieces written in case A, last first, and the triple of the body over the buffers it touches. -/
def runA (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole)
    (hc0 : cond0_0 i) (hc1 : cond0_1 i) (hc2 : ¬cond0_2 i) (hc3 : ¬cond0_3 i) (hc4 : ¬cond0_4 i)
    (x : Vec F S256x3584 .bf16) (h28 : Vec F S28x28 .bf16) (hff : Vec F S128x128 .bf16) (wq : Vec F S4096x448 .i32) :
    Σ' (L7 : List (View.Piece (Elt F) S256x3584 .i8)), Σ' (L8 : List (View.Piece (Elt F) S1x2x128 .f32)), Σ' (L9 : List (View.Piece (Elt F) S3584x4096 .bf16)), Σ' (L10 : List (View.Piece (Elt F) S224x672 .bf16)), Σ' (L11 : List (View.Piece (Elt F) S256x256 .bf16)), Σ' (L12 : List (View.Piece (Elt F) S256x3584 .bf16)), { L14 : List (View.Piece (Elt F) S256x128 .f32) //
      ∀ (E : Set ℕ) (K : PUnit → sProp 𝕄),
        iprop(owns (c : Thread nD τ) arg1 fullShare x ∗ owns (c : Thread nD τ) arg2 fullShare h28 ∗ owns (c : Thread nD τ) arg3 fullShare hff ∗ owns (c : Thread nD τ) arg4 fullShare wq ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d)
            ∗ (iprop(owns (c : Thread nD τ) arg1 fullShare x ∗ owns (c : Thread nD τ) arg2 fullShare h28 ∗ owns (c : Thread nD τ) arg3 fullShare hff ∗ owns (c : Thread nD τ) arg4 fullShare wq ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg14.view.loc (c : Thread nD τ) ↦[arg14.view.set]{fullShare} arg14.view.writes (Elt F) f L14)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0_quarot_down_eq_skeleton]; unfold cc0_quarot_down_skel
    simp only [k0_part1_eq_skeleton, k0_part2_eq_skeleton, k0_part3_eq_skeleton, k0_part4_eq_skeleton, k0_part5_eq_skeleton, k0_part131_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part132_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton]
    unfold owns
    iintro ⟨⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d14, %f14, -, H14⟩, Hk⟩
    obtain rfl := harg1.eq_unread hf1; obtain rfl := harg2.eq_unread hf2; obtain rfl := harg3.eq_unread hf3; obtain rfl := harg4.eq_unread hf4
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H14

end Cert.KernelIdeal.Run

end
-- ==== Proof.Run.Spec.lean ====
/- What one grid point computes, as functions of the blocks it reads: the tile's chunks of 32 rows are
   rotated (`first`, `second`), scaled and quantised (`code`, `scale`), and a quantised tile is multiplied
   with a block of 512 columns of the weight (`product`). Every definition spells the operations of the
   kernel in their order, with the repetitions over column pairs, row groups and tiles as functions of an
   index. -/
module

public import proofs.«01_k».proof.Proof.Gen.KernelIdeal
public import proofs.«01_k».proof.Proof.Gen.KernelIdeal.Skeleton

@[expose] public section

set_option maxRecDepth 16384

noncomputable section

namespace Cert.KernelIdeal.Spec

open Idealize.ShloMosaic Idealize.ShloMosaic.TcCoe
open Cert.KernelIdeal.Gen

/-- The pieces of one shape fill the result along the axis. -/
theorem stack_ok {α : Type} {s t : Shape} {a : Fin t.rank} {n : Nat} (f : Fin n → s.Idx → α)
    (h : Shape.Concatenates (List.replicate n s) t a) :
    Shape.Concatenates ((List.ofFn fun k : Fin n => (⟨s, f k⟩ : (s : Shape) × (s.Idx → α))).map (·.1)) t a := by
  rw [List.map_ofFn]; convert h; exact List.ofFn_const _ _

/-- `n` blocks of one shape put one after the other along the axis. -/
def stack {α : Type} {s : Shape} (t : Shape) (a : Fin t.rank) (n : Nat) (f : Fin n → s.Idx → α)
    (h : Shape.Concatenates (List.replicate n s) t a) : t.Idx → α :=
  concatenate t a (List.ofFn fun k : Fin n => (⟨s, f k⟩ : (s : Shape) × (s.Idx → α))) (stack_ok f h)

variable {F : FTy → Type} [FloatOps F]

/-- The rotation inside the pairs of groups: the 14 column pairs of 32 rows, one below the other, times
    the block diagonal of the small rotation twice. -/
def first (X : Fin 14 → Vec F S32x256 .bf16) (h : Vec F S256x256 .bf16) : FVec F S448x256 .f32 :=
  matmul dot_S448x256_S256x256_S448x256_1_0_0_1_n_n none
    (stack S448x256 0 14 (fun p => shapeCast S32x256 (X p) (by decide)) (by decide) : FVec F S448x256 .bf16) h (constant S448x256 .f32 0x00000000#32)

theorem slice_first (g : Fin 4) (a : Fin 28) : S448x256.Slices ![32 * (a.val / 2) + 8 * g.val, 128 * (a.val % 2)] S8x128 := by
  revert g a; decide

/-- Eight rows of every group, one group below the other. -/
def rows (T : FVec F S448x256 .f32) (g : Fin 4) : FVec F S224x128 .f32 :=
  stack S224x128 0 28 (fun a => extractStridedSlice S8x128 ![32 * (a.val / 2) + 8 * g.val, 128 * (a.val % 2)] T (slice_first g a)) (by decide)

/-- A value as three of lower precision: the rounded value, the rounded rest, and the rounded rest of that. -/
def split (d : FVec F S224x128 .f32) : FVec F S672x128 .bf16 :=
  concatenate S672x128 0
    [⟨S224x128, truncf .bf16 d (by decide)⟩,
     ⟨S224x128, truncf .bf16 (subf d (extf .f32 (truncf .bf16 d (by decide)) (by decide))) (by decide)⟩,
     ⟨S224x128, truncf .bf16 (subf (subf d (extf .f32 (truncf .bf16 d (by decide)) (by decide)))
       (extf .f32 (truncf .bf16 (subf d (extf .f32 (truncf .bf16 d (by decide)) (by decide))) (by decide)) (by decide))) (by decide)⟩]
    (by decide : Shape.Concatenates [S224x128, S224x128, S224x128] S672x128 0)

/-- The rotation across the groups. -/
def second (T : FVec F S448x256 .f32) (k : Vec F S224x672 .bf16) : FVec F S224x512 .f32 :=
  matmul dot_S224x672_S672x512_S224x512_1_0_0_1_n_n none k
    (stack S672x512 1 4 (fun g => split (rows T g)) (by decide) : FVec F S672x512 .bf16) (constant S224x512 .f32 0x00000000#32)

theorem slice_second (g : Fin 4) : S224x512.Slices ![0, 128 * g.val] S224x128 := by
  revert g; decide

/-- The scaled rotation's eight rows of every group. -/
def part (u : FVec F S224x512 .f32) (g : Fin 4) : FVec F S28x8x128 .f32 :=
  shapeCast S28x8x128 (extractStridedSlice S224x128 ![0, 128 * g.val]
    (mulf u (broadcast S224x512 (Scalar.ofBits .f32 0x3C88D677#32))) (slice_second g)) (by decide)

/-- Each row's largest magnitude over 7, and 1 where the row is zero. -/
def rowScale (w : FVec F S28x8x128 .f32) : FVec F S8x1 .f32 :=
  select
    (cmpf .oeq (shapeCast S8x1 (multiReduction .maximumf [1] S8 (multiReduction .maximumf [0] S8x128 (absf w) 0xFF800000#32 (by decide) (.inl rfl) rfl) 0xFF800000#32 (by decide) (.inl rfl) rfl) (by decide))
      (broadcast S8x1 (Scalar.ofBits .f32 0x00000000#32)))
    (broadcast S8x1 (Scalar.ofBits .f32 0x3F800000#32))
    (divf (shapeCast S8x1 (multiReduction .maximumf [1] S8 (multiReduction .maximumf [0] S8x128 (absf w) 0xFF800000#32 (by decide) (.inl rfl) rfl) 0xFF800000#32 (by decide) (.inl rfl) rfl) (by decide))
      (broadcast S8x1 (Scalar.ofBits .f32 0x40E00000#32)))

/-- The values over their row's scale, rounded and kept in [-7, 7]. -/
def quant (w : FVec F S28x8x128 .f32) : FVec F S28x8x128 .f32 :=
  minimumf (broadcast S28x8x128 (Scalar.sitofp .f32 7#32))
    (maximumf (broadcast S28x8x128 (Scalar.sitofp .f32 4294967289#32))
      (roundeven (divf w (broadcastTo S28x8x128 (shapeCast S1x8x1 (rowScale w) (by decide)) (by decide)))))

theorem slice_quant (i : Fin 28) : S28x8x128.Slices ![i.val, 0, 0] S1x8x128 := by
  revert i; decide

/-- The 32 rows of group `i` of the quantised chunk. -/
def code (u : FVec F S224x512 .f32) (i : Fin 28) : FVec F S32x128 .f32 :=
  stack S32x128 0 4 (fun g => shapeCast S8x128 (extractStridedSlice S1x8x128 ![i.val, 0, 0] (quant (part u g)) (slice_quant i)) (by decide)) (by decide)

/-- The scales of the chunk's 32 rows, each along 128 lanes. -/
def scale (u : FVec F S224x512 .f32) : FVec F S32x128 .f32 :=
  stack S32x128 0 4 (fun g => broadcastTo S8x128 (shapeCast S8x1 (rowScale (part u g)) (by decide)) (by decide)) (by decide)

/-- A quantised tile times 512 columns of the weight, with the rows' and the columns' scales. -/
def product (l : Vec F S256x3584 .bf16) (w : Vec F S3584x512 .bf16) (xs : Vec F S256x128 .f32) (ws : Vec F S1x512 .f32) : FVec F S256x512 .bf16 :=
  truncf .bf16 (mulf (mulf
    (matmul dot_S256x3584_S3584x512_S256x512_1_0_0_1_n_n none (l : FVec F S256x3584 .bf16) (w : FVec F S3584x512 .bf16) (constant S256x512 .f32 0x00000000#32))
    (stack S256x512 1 4 (fun _ => xs) (by decide)))
    (broadcastTo S256x512 (shapeCast S1x512 ws (by decide)) (by decide))) (by decide)

/-- The scales of 128 rows as one row. -/
def scaleRow (xs : Vec F S128x128 .f32) : FVec F S1x1x128 .f32 :=
  shapeCast S1x1x128 (extractStridedSlice S1x128 ![0, 0] (transpose S128x128 [1, 0] xs (by decide)) (by decide)) (by decide)

/-- The block rotation, three times side by side. -/
def kron (h : Vec F S28x28 .bf16) : FVec F S224x672 .bf16 := k0_pay1 (k0_pay22 k0_pay21 h) k0_pay23

/-- The small rotation twice along the diagonal. -/
def twice (h : Vec F S128x128 .bf16) : FVec F S256x256 .bf16 := k0_pay2 h

/-- 512 columns of the weight. -/
def weight (w : Vec F S512x448 .i32) : FVec F S3584x512 .bf16 := k0_pay9 w

end Cert.KernelIdeal.Spec

end
-- ==== Proof.Run.Pieces.lean ====
/- The lists of pieces that the body leaves in each buffer, last first, as functions of the blocks. -/
module

public import proofs.«01_k».proof.Proof.Run.Spec
public import proofs.«01_k».proof.Proof.Gen.KernelIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.KernelIdeal.Run

open Idealize.ShloMosaic Idealize.ShloMosaic.TcCoe
open Cert.KernelIdeal.Gen

/-- The chunk and the group of the `k`-th piece from the end. -/
def chunkOf (k : Fin 224) : Fin 8 := ⟨(223 - k.val) / 28, by have := k.isLt; omega⟩
def groupOf (k : Fin 224) : Fin 28 := ⟨(223 - k.val) % 28, Nat.mod_lt _ (by decide)⟩
/-- The `k`-th of eight from the end. -/
def back (k : Fin 8) : Fin 8 := ⟨7 - k.val, by omega⟩

theorem inb_y (k : Fin 8) : ∀ a, (![0, 512 * k.val] : Fin 2 → Nat) a + S256x512.size a ≤ S256x4096.size a := by
  revert k; decide
theorem inb_w (k : Fin 8) : ∀ a, (![0, 512 * k.val] : Fin 2 → Nat) a + S3584x512.size a ≤ S3584x4096.size a := by
  revert k; decide
theorem inb_ws (k : Fin 8) : ∀ a, (![0, 512 * k.val] : Fin 2 → Nat) a + S1x512.size a ≤ S1x4096.size a := by
  revert k; decide
theorem inb_wq (k : Fin 8) : ∀ a, (![512 * k.val, 0] : Fin 2 → Nat) a + S512x448.size a ≤ S4096x448.size a := by
  revert k; decide
theorem inb_code (c : Fin 8) (i : Fin 28) : ∀ a, (![32 * c.val, 128 * i.val] : Fin 2 → Nat) a + S32x128.size a ≤ S256x3584.size a := by
  revert c i; decide
theorem inb_x (c : Fin 8) (p : Fin 14) : ∀ a, (![32 * c.val, 256 * p.val] : Fin 2 → Nat) a + S32x256.size a ≤ S256x3584.size a := by
  revert c p; decide
theorem inb_xs (k : Fin 8) : ∀ a, (![32 * k.val, 0] : Fin 2 → Nat) a + S32x128.size a ≤ S256x128.size a := by
  revert k; decide
theorem inb_xs128 (r : Fin 2) : ∀ a, (![128 * r.val, 0] : Fin 2 → Nat) a + S128x128.size a ≤ S256x128.size a := by
  revert r; decide
theorem inb_row (r : Fin 2) : ∀ a, (![0, r.val, 0] : Fin 3 → Nat) a + S1x1x128.size a ≤ S1x2x128.size a := by
  revert r; decide

variable {F : FTy → Type} [FloatOps F]

/-- The product with the eight column blocks. -/
def yPieces (l : Vec F S256x3584 .bf16) (wb : Fin 8 → Vec F S3584x512 .bf16) (xs : Vec F S256x128 .f32) (wsb : Fin 8 → Vec F S1x512 .f32) :
    List (View.Piece (Elt F) S256x4096 .bf16) :=
  List.ofFn fun k : Fin 8 => ⟨Rect.unit ![0, 512 * (back k).val] S256x512.size (inb_y (back k)), Spec.product l (wb (back k)) xs (wsb (back k))⟩

/-- The codes as integers. -/
def codePieces (u : Fin 8 → FVec F S224x512 .f32) : List (View.Piece (Elt F) S256x3584 .i8) :=
  List.ofFn fun k : Fin 224 => ⟨Rect.unit ![32 * (chunkOf k).val, 128 * (groupOf k).val] S32x128.size (inb_code (chunkOf k) (groupOf k)),
    fptosi 8 (Spec.code (u (chunkOf k)) (groupOf k))⟩

/-- The codes as operand of the product. -/
def lhsPieces (u : Fin 8 → FVec F S224x512 .f32) : List (View.Piece (Elt F) S256x3584 .bf16) :=
  List.ofFn fun k : Fin 224 => ⟨Rect.unit ![32 * (chunkOf k).val, 128 * (groupOf k).val] S32x128.size (inb_code (chunkOf k) (groupOf k)),
    shapeCast S32x128 (truncf .bf16 (Spec.code (u (chunkOf k)) (groupOf k)) (by decide)) (by decide)⟩

/-- The scales along the lanes. -/
def xsPieces (u : Fin 8 → FVec F S224x512 .f32) : List (View.Piece (Elt F) S256x128 .f32) :=
  List.ofFn fun k : Fin 8 => ⟨Rect.unit ![32 * (back k).val, 0] S32x128.size (inb_xs (back k)), shapeCast S32x128 (Spec.scale (u (back k))) (by decide)⟩

/-- The two rows of scales. -/
def scalePieces (r : Fin 2 → Vec F S128x128 .f32) : List (View.Piece (Elt F) S1x2x128 .f32) :=
  [⟨Rect.unit ![0, 1, 0] S1x1x128.size (inb_row 1), Spec.scaleRow (r 1)⟩, ⟨Rect.unit ![0, 0, 0] S1x1x128.size (inb_row 0), Spec.scaleRow (r 0)⟩]

/-- The weight's blocks of 512 columns. -/
def wPieces (v : Fin 8 → Vec F S512x448 .i32) : List (View.Piece (Elt F) S3584x4096 .bf16) :=
  List.ofFn fun k : Fin 8 => ⟨Rect.unit ![0, 512 * (back k).val] S3584x512.size (inb_w (back k)), Spec.weight (v (back k))⟩

/-- The block rotation, written whole. -/
def kronPieces (k : FVec F S224x672 .bf16) : List (View.Piece (Elt F) S224x672 .bf16) :=
  [⟨Rect.unit ![0, 0] S224x672.size inb_S224x672_S224x672_0_0, k⟩]

/-- The small rotation twice, written whole. -/
def hff2Pieces (h : FVec F S256x256 .bf16) : List (View.Piece (Elt F) S256x256 .bf16) :=
  [⟨Rect.unit ![0, 0] S256x256.size inb_S256x256_S256x256_0_0, h⟩]

end Cert.KernelIdeal.Run

end
-- ==== Proof.Run.Tiles.lean ====
/- What each buffer holds after the body's stores, as a function of the blocks: the pieces cover the buffer,
   so that its earlier contents do not matter. -/
module

public import proofs.«01_k».proof.Proof.Run.Pieces

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The rotated tile, 32 rows at a time. -/
def rotated (x : Vec F S256x3584 .bf16) (hf2 : Vec F S256x256 .bf16) (kr : Vec F S224x672 .bf16) (c : Fin 8) : FVec F S224x512 .f32 :=
  Spec.second (Spec.first (fun p => View.ld x (Rect.unit (s := S256x3584) ![32 * c.val, 256 * p.val] S32x256.size (inb_x c p)))
    (View.ld hf2 (Rect.unit ![0, 0] S256x256.size inb_S256x256_S256x256_0_0)))
    (View.ld kr (Rect.unit ![0, 0] S224x672.size inb_S224x672_S224x672_0_0))

/-- The product with a tile's codes and scales. -/
def yList (lhs : Vec F S256x3584 .bf16) (w : Vec F S3584x4096 .bf16) (xs : Vec F S256x128 .f32) (ws : Vec F S1x4096 .f32) :
    List (View.Piece (Elt F) S256x4096 .bf16) :=
  yPieces (View.ld lhs (Rect.unit ![0, 0] S256x3584.size inb_S256x3584_S256x3584_0_0))
    (fun k => View.ld w (Rect.unit (s := S3584x4096) ![0, 512 * k.val] S3584x512.size (inb_w k)))
    (View.ld xs (Rect.unit ![0, 0] S256x128.size inb_S256x128_S256x128_0_0))
    (fun k => View.ld ws (Rect.unit (s := S1x4096) ![0, 512 * k.val] S1x512.size (inb_ws k)))

theorem cover_y (l : Vec F S256x3584 .bf16) (wb : Fin 8 → Vec F S3584x512 .bf16) (xs : Vec F S256x128 .f32) (wsb : Fin 8 → Vec F S1x512 .f32) :
    ∀ y, ∃ p ∈ yPieces l wb xs wsb, y ∈ p.1.set :=
  View.cover_of_tiledL (yPieces l wb xs wsb) S256x512.size (by sl_kernel_rfl)

theorem cover_codes (u : Fin 8 → FVec F S224x512 .f32) : ∀ y, ∃ p ∈ codePieces u, y ∈ p.1.set :=
  View.cover_of_tiledL (codePieces u) S32x128.size (by sl_kernel_rfl)

theorem cover_lhs (u : Fin 8 → FVec F S224x512 .f32) : ∀ y, ∃ p ∈ lhsPieces u, y ∈ p.1.set :=
  View.cover_of_tiledL (lhsPieces u) S32x128.size (by sl_kernel_rfl)

theorem cover_xs (u : Fin 8 → FVec F S224x512 .f32) : ∀ y, ∃ p ∈ xsPieces u, y ∈ p.1.set :=
  View.cover_of_tiledL (xsPieces u) S32x128.size (by sl_kernel_rfl)

theorem cover_scale (r : Fin 2 → Vec F S128x128 .f32) : ∀ y, ∃ p ∈ scalePieces r, y ∈ p.1.set :=
  View.cover_of_tiledL (scalePieces r) S1x1x128.size (by sl_kernel_rfl)

theorem cover_w (v : Fin 8 → Vec F S512x448 .i32) : ∀ y, ∃ p ∈ wPieces v, y ∈ p.1.set :=
  View.cover_of_tiledL (wPieces v) S3584x512.size (by sl_kernel_rfl)

theorem cover_kron (k : FVec F S224x672 .bf16) : ∀ y, ∃ p ∈ kronPieces k, y ∈ p.1.set :=
  View.cover_of_tiledL (kronPieces k) S224x672.size (by sl_kernel_rfl)

theorem cover_hff2 (h : FVec F S256x256 .bf16) : ∀ y, ∃ p ∈ hff2Pieces h, y ∈ p.1.set :=
  View.cover_of_tiledL (hff2Pieces h) S256x256.size (by sl_kernel_rfl)

/-- The eight column blocks of the product. -/
def yTile (lhs : Vec F S256x3584 .bf16) (w : Vec F S3584x4096 .bf16) (xs : Vec F S256x128 .f32) (ws : Vec F S1x4096 .f32) : Vec F S256x4096 .bf16 :=
  View.canon (Val := Elt F) (yList lhs w xs ws)
/-- The tile's codes. -/
def codeTile (u : Fin 8 → FVec F S224x512 .f32) : Vec F S256x3584 .i8 := View.canon (Val := Elt F) (codePieces u)
/-- The tile's codes as operand of the product. -/
def lhsTile (u : Fin 8 → FVec F S224x512 .f32) : Vec F S256x3584 .bf16 := View.canon (Val := Elt F) (lhsPieces u)
/-- The tile's scales along the lanes. -/
def xsTile (u : Fin 8 → FVec F S224x512 .f32) : Vec F S256x128 .f32 := View.canon (Val := Elt F) (xsPieces u)
/-- The two rows of the tile's scales. -/
def scaleList (u : Fin 8 → FVec F S224x512 .f32) : List (View.Piece (Elt F) S1x2x128 .f32) :=
  scalePieces fun r => View.ld (xsTile u) (Rect.unit (s := S256x128) ![128 * r.val, 0] S128x128.size (inb_xs128 r))
def scaleTile (u : Fin 8 → FVec F S224x512 .f32) : Vec F S1x2x128 .f32 := View.canon (Val := Elt F) (scaleList u)
/-- The whole weight. -/
def wTile (wq : Vec F S4096x448 .i32) : Vec F S3584x4096 .bf16 :=
  View.canon (Val := Elt F) (wPieces fun k => View.ld wq (Rect.unit (s := S4096x448) ![512 * k.val, 0] S512x448.size (inb_wq k)))
/-- The block rotation. -/
def kronTile (h28 : Vec F S28x28 .bf16) : Vec F S224x672 .bf16 :=
  View.canon (Val := Elt F) (kronPieces (Spec.kron (View.ld h28 (Rect.unit ![0, 0] S28x28.size inb_S28x28_S28x28_0_0))))
/-- The small rotation twice. -/
def hff2Tile (hff : Vec F S128x128 .bf16) : Vec F S256x256 .bf16 :=
  View.canon (Val := Elt F) (hff2Pieces (Spec.twice (View.ld hff (Rect.unit ![0, 0] S128x128.size inb_S128x128_S128x128_0_0))))

/-- A buffer that covering pieces are written into holds what the pieces leave, whatever it held. -/
theorem owns_of_writes {s : Shape} {e : EltTy} (c : Dev nD) (m : Memref sig .tc .vmem s e) (L L' : List (View.Piece (Elt F) s e))
    (h : L = L') (hc : ∀ y, ∃ p ∈ L', y ∈ p.1.set) :
    (iprop(∃ f, m.view.loc (c : Thread nD τ) ↦[m.view.set]{fullShare} m.view.writes (Elt F) f L) : sProp 𝕄)
      ⊢ owns (c : Thread nD τ) m fullShare (View.canon (Val := Elt F) L') := by
  subst h
  iintro ⟨%f, H⟩
  unfold owns; iexists _; isplitr
  swap; · iexact H
  ipureintro; exact View.read_writes_eq_canon _ _ _ hc

end Cert.KernelIdeal.Run

end
-- ==== Proof.Run.StepA.lean ====
/- At the first point the body fills the weight, the block rotation and the small rotation, then rotates and quantises tile 0.
   What each buffer then holds, as the tile functions of the blocks. -/
module

public import proofs.«01_k».proof.Proof.Run.RunA
public import proofs.«01_k».proof.Proof.Run.Tiles

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole)
  (hc0 : cond0_0 i) (hc1 : cond0_1 i) (hc2 : ¬cond0_2 i) (hc3 : ¬cond0_3 i) (hc4 : ¬cond0_4 i)
  (x : Vec F S256x3584 .bf16) (h28 : Vec F S28x28 .bf16) (hff : Vec F S128x128 .bf16) (wq : Vec F S4096x448 .i32)

/-- The rotated chunks, as the body loads their operands. -/
def loadA (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg10 : Memref sig .tc .vmem S224x672 .bf16) (arg11 : Memref sig .tc .vmem S256x256 .bf16) (x : Vec F S256x3584 .bf16) (h28 : Vec F S28x28 .bf16) (hff : Vec F S128x128 .bf16) : Fin 8 → FVec F S224x512 .f32 :=
  fun c => Spec.second (Spec.first (fun p => View.readAt (Elt F) arg1.view (Rect.unit (s := S256x3584) ![32 * c.val, 256 * p.val] S32x256.size (inb_x c p)).toLoadRect (harg1.unread x)) (arg11.view.readCov (hff2Pieces (Spec.twice (View.readAt (Elt F) arg3.view (Rect.unit (s := S128x128) ![0, 0] S128x128.size inb_S128x128_S128x128_0_0).toLoadRect (harg3.unread hff)))) (Rect.unit ![0, 0] S256x256.size inb_S256x256_S256x256_0_0).toLoadRect)) (arg10.view.readCov (kronPieces (Spec.kron (View.readAt (Elt F) arg2.view (Rect.unit (s := S28x28) ![0, 0] S28x28.size inb_S28x28_S28x28_0_0).toLoadRect (harg2.unread h28)))) (Rect.unit ![0, 0] S224x672.size inb_S224x672_S224x672_0_0).toLoadRect)

theorem loadA_eq (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg10 : Memref sig .tc .vmem S224x672 .bf16) (arg11 : Memref sig .tc .vmem S256x256 .bf16) (x : Vec F S256x3584 .bf16) (h28 : Vec F S28x28 .bf16) (hff : Vec F S128x128 .bf16) : loadA arg1 harg1 arg2 harg2 arg3 harg3 arg10 arg11 x h28 hff = rotated x (hff2Tile hff) (kronTile h28) := by
  unfold loadA rotated hff2Tile kronTile
  simp only [View.readCov_eq_canon_ld _ _ _ (cover_hff2 _), View.readCov_eq_canon_ld _ _ _ (cover_kron _), View.readAt_eq_ld, Memref.IsWhole.read_unread]

theorem runA_L7 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq).1 = codePieces (rotated x (hff2Tile hff) (kronTile h28)) := by
  refine (show _ = codePieces (loadA arg1 harg1 arg2 harg2 arg3 harg3 arg10 arg11 x h28 hff) from by sl_kernel_rfl).trans ?_
  rw [loadA_eq]

theorem runA_L8 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq).2.1 = scaleList (rotated x (hff2Tile hff) (kronTile h28)) := by
  refine (show _ = scalePieces (fun r => View.readCov arg14.view (xsPieces (loadA arg1 harg1 arg2 harg2 arg3 harg3 arg10 arg11 x h28 hff)) (Rect.unit (s := S256x128) ![128 * r.val, 0] S128x128.size (inb_xs128 r)).toLoadRect) from by sl_kernel_rfl).trans ?_
  rw [loadA_eq]
  simp only [View.readCov_eq_canon_ld _ _ _ (cover_xs _)]
  rfl

theorem runA_L9 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq).2.2.1 = wPieces (fun k => View.ld wq (Rect.unit (s := S4096x448) ![512 * k.val, 0] S512x448.size (inb_wq k))) := by
  refine (show _ = wPieces (fun k => View.readAt (Elt F) arg4.view (Rect.unit (s := S4096x448) ![512 * k.val, 0] S512x448.size (inb_wq k)).toLoadRect (harg4.unread wq)) from by sl_kernel_rfl).trans ?_
  simp only [View.readAt_eq_ld, Memref.IsWhole.read_unread]

theorem runA_L10 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq).2.2.2.1 = kronPieces (Spec.kron (View.ld h28 (Rect.unit ![0, 0] S28x28.size inb_S28x28_S28x28_0_0))) := by
  refine (show _ = kronPieces (Spec.kron (View.readAt (Elt F) arg2.view (Rect.unit (s := S28x28) ![0, 0] S28x28.size inb_S28x28_S28x28_0_0).toLoadRect (harg2.unread h28))) from by sl_kernel_rfl).trans ?_
  simp only [View.readAt_eq_ld, Memref.IsWhole.read_unread]

theorem runA_L11 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq).2.2.2.2.1 = hff2Pieces (Spec.twice (View.ld hff (Rect.unit ![0, 0] S128x128.size inb_S128x128_S128x128_0_0))) := by
  refine (show _ = hff2Pieces (Spec.twice (View.readAt (Elt F) arg3.view (Rect.unit (s := S128x128) ![0, 0] S128x128.size inb_S128x128_S128x128_0_0).toLoadRect (harg3.unread hff))) from by sl_kernel_rfl).trans ?_
  simp only [View.readAt_eq_ld, Memref.IsWhole.read_unread]

theorem runA_L12 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq).2.2.2.2.2.1 = lhsPieces (rotated x (hff2Tile hff) (kronTile h28)) := by
  refine (show _ = lhsPieces (loadA arg1 harg1 arg2 harg2 arg3 harg3 arg10 arg11 x h28 hff) from by sl_kernel_rfl).trans ?_
  rw [loadA_eq]

theorem runA_L14 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq).2.2.2.2.2.2.1 = xsPieces (rotated x (hff2Tile hff) (kronTile h28)) := by
  refine (show _ = xsPieces (loadA arg1 harg1 arg2 harg2 arg3 harg3 arg10 arg11 x h28 hff) from by sl_kernel_rfl).trans ?_
  rw [loadA_eq]

include hc0 hc1 hc2 hc3 hc4 in
/-- The body's triple over the buffers it touches. -/
theorem stepA (E : Set ℕ) (K : PUnit → sProp 𝕄) :
    iprop(owns (c : Thread nD τ) arg1 fullShare x ∗ owns (c : Thread nD τ) arg2 fullShare h28 ∗ owns (c : Thread nD τ) arg3 fullShare hff ∗ owns (c : Thread nD τ) arg4 fullShare wq ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d)
        ∗ (iprop(owns (c : Thread nD τ) arg1 fullShare x ∗ owns (c : Thread nD τ) arg2 fullShare h28 ∗ owns (c : Thread nD τ) arg3 fullShare hff ∗ owns (c : Thread nD τ) arg4 fullShare wq ∗ owns (c : Thread nD τ) arg7 fullShare (codeTile (rotated x (hff2Tile hff) (kronTile h28))) ∗ owns (c : Thread nD τ) arg8 fullShare (scaleTile (rotated x (hff2Tile hff) (kronTile h28))) ∗ owns (c : Thread nD τ) arg9 fullShare (wTile wq) ∗ owns (c : Thread nD τ) arg10 fullShare (kronTile h28) ∗ owns (c : Thread nD τ) arg11 fullShare (hff2Tile hff) ∗ owns (c : Thread nD τ) arg12 fullShare (lhsTile (rotated x (hff2Tile hff) (kronTile h28))) ∗ owns (c : Thread nD τ) arg14 fullShare (xsTile (rotated x (hff2Tile hff) (kronTile h28)))) -∗ K ⟨⟩))
      ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H2, H3, H4, H7, H8, H9, H10, H11, H12, H14, Hk⟩
  iapply ((runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq).2.2.2.2.2.2.2 E K)
  isplitl [H1]; · iexact H1
  isplitl [H2]; · iexact H2
  isplitl [H3]; · iexact H3
  isplitl [H4]; · iexact H4
  isplitl [H7]; · iexact H7
  isplitl [H8]; · iexact H8
  isplitl [H9]; · iexact H9
  isplitl [H10]; · iexact H10
  isplitl [H11]; · iexact H11
  isplitl [H12]; · iexact H12
  isplitl [H14]; · iexact H14
  iintro ⟨H1, H2, H3, H4, H7, H8, H9, H10, H11, H12, H14⟩
  iapply Hk
  isplitl [H1]; · iexact H1
  isplitl [H2]; · iexact H2
  isplitl [H3]; · iexact H3
  isplitl [H4]; · iexact H4
  isplitl [H7]; · iapply (owns_of_writes c arg7 _ _ (runA_L7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq) (cover_codes _)); iexact H7
  isplitl [H8]; · iapply (owns_of_writes c arg8 _ _ (runA_L8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq) (cover_scale _)); iexact H8
  isplitl [H9]; · iapply (owns_of_writes c arg9 _ _ (runA_L9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq) (cover_w _)); iexact H9
  isplitl [H10]; · iapply (owns_of_writes c arg10 _ _ (runA_L10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq) (cover_kron _)); iexact H10
  isplitl [H11]; · iapply (owns_of_writes c arg11 _ _ (runA_L11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq) (cover_hff2 _)); iexact H11
  isplitl [H12]; · iapply (owns_of_writes c arg12 _ _ (runA_L12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq) (cover_lhs _)); iexact H12
  iapply (owns_of_writes c arg14 _ _ (runA_L14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x h28 hff wq) (cover_xs _)); iexact H14

end Cert.KernelIdeal.Run

end
-- ==== Proof.Run.RunB.lean ====
/- At an odd point before the last the body multiplies the tile in the first pair of buffers and rotates the next tile into the second.
   The run of the body is found by execution, and with it the pieces that each buffer is written with. -/
module

public import proofs.«01_k».proof.Proof.Run.RunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 8000000 in
/-- The pieces written in case B, last first, and the triple of the body over the buffers it touches. -/
def runB (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole)
    (hc0 : ¬cond0_0 i) (hc1 : ¬cond0_1 i) (hc2 : ¬cond0_2 i) (hc3 : cond0_3 i) (hc4 : ¬cond0_4 i)
    (x : Vec F S256x3584 .bf16) (ws : Vec F S1x4096 .f32) (w : Vec F S3584x4096 .bf16) (kr : Vec F S224x672 .bf16) (hf2 : Vec F S256x256 .bf16) (lhs : Vec F S256x3584 .bf16) (xs : Vec F S256x128 .f32) :
    Σ' (L6 : List (View.Piece (Elt F) S256x4096 .bf16)), Σ' (L7 : List (View.Piece (Elt F) S256x3584 .i8)), Σ' (L8 : List (View.Piece (Elt F) S1x2x128 .f32)), Σ' (L13 : List (View.Piece (Elt F) S256x3584 .bf16)), { L15 : List (View.Piece (Elt F) S256x128 .f32) //
      ∀ (E : Set ℕ) (K : PUnit → sProp 𝕄),
        iprop(owns (c : Thread nD τ) arg1 fullShare x ∗ owns (c : Thread nD τ) arg5 fullShare ws ∗ (∃ d, owns (c : Thread nD τ) arg6 fullShare d) ∗ (∃ d, owns (c : Thread nD τ) arg7 fullShare d) ∗ (∃ d, owns (c : Thread nD τ) arg8 fullShare d) ∗ owns (c : Thread nD τ) arg9 fullShare w ∗ owns (c : Thread nD τ) arg10 fullShare kr ∗ owns (c : Thread nD τ) arg11 fullShare hf2 ∗ owns (c : Thread nD τ) arg12 fullShare lhs ∗ (∃ d, owns (c : Thread nD τ) arg13 fullShare d) ∗ owns (c : Thread nD τ) arg14 fullShare xs ∗ (∃ d, owns (c : Thread nD τ) arg15 fullShare d)
            ∗ (iprop(owns (c : Thread nD τ) arg1 fullShare x ∗ owns (c : Thread nD τ) arg5 fullShare ws ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare w ∗ owns (c : Thread nD τ) arg10 fullShare kr ∗ owns (c : Thread nD τ) arg11 fullShare hf2 ∗ owns (c : Thread nD τ) arg12 fullShare lhs ∗ (∃ f, arg13.view.loc (c : Thread nD τ) ↦[arg13.view.set]{fullShare} arg13.view.writes (Elt F) f L13) ∗ owns (c : Thread nD τ) arg14 fullShare xs ∗ (∃ f, arg15.view.loc (c : Thread nD τ) ↦[arg15.view.set]{fullShare} arg15.view.writes (Elt F) f L15)) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_quarot_down_eq_skeleton]; unfold cc0_quarot_down_skel
    simp only [k0_part391_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part392_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton]
    unfold owns
    iintro ⟨⟨%f1, %hf1, H1⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, Hk⟩
    obtain rfl := harg1.eq_unread hf1; obtain rfl := harg5.eq_unread hf5; obtain rfl := harg9.eq_unread hf9; obtain rfl := harg10.eq_unread hf10; obtain rfl := harg11.eq_unread hf11; obtain rfl := harg12.eq_unread hf12; obtain rfl := harg14.eq_unread hf14
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H5]
    · iexists _; isplitr; · ipureintro; exact harg5.read_unread _
      iexact H5
    isplitl [H6]; · iexists _; iexact H6
    isplitl [H7]; · iexists _; iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]
    · iexists _; isplitr; · ipureintro; exact harg14.read_unread _
      iexact H14
    iexists _; iexact H15

end Cert.KernelIdeal.Run

end
-- ==== Proof.Run.RunC.lean ====
/- At an even point after the first and before the last the body multiplies the tile in the second pair of buffers and rotates the next tile into the first.
   The run of the body is found by execution, and with it the pieces that each buffer is written with. -/
module

public import proofs.«01_k».proof.Proof.Run.RunB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 8000000 in
/-- The pieces written in case C, last first, and the triple of the body over the buffers it touches. -/
def runC (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole)
    (hc0 : ¬cond0_0 i) (hc1 : ¬cond0_1 i) (hc2 : cond0_2 i) (hc3 : ¬cond0_3 i) (hc4 : ¬cond0_4 i)
    (x : Vec F S256x3584 .bf16) (ws : Vec F S1x4096 .f32) (w : Vec F S3584x4096 .bf16) (kr : Vec F S224x672 .bf16) (hf2 : Vec F S256x256 .bf16) (lhs : Vec F S256x3584 .bf16) (xs : Vec F S256x128 .f32) :
    Σ' (L6 : List (View.Piece (Elt F) S256x4096 .bf16)), Σ' (L7 : List (View.Piece (Elt F) S256x3584 .i8)), Σ' (L8 : List (View.Piece (Elt F) S1x2x128 .f32)), Σ' (L12 : List (View.Piece (Elt F) S256x3584 .bf16)), { L14 : List (View.Piece (Elt F) S256x128 .f32) //
      ∀ (E : Set ℕ) (K : PUnit → sProp 𝕄),
        iprop(owns (c : Thread nD τ) arg1 fullShare x ∗ owns (c : Thread nD τ) arg5 fullShare ws ∗ (∃ d, owns (c : Thread nD τ) arg6 fullShare d) ∗ (∃ d, owns (c : Thread nD τ) arg7 fullShare d) ∗ (∃ d, owns (c : Thread nD τ) arg8 fullShare d) ∗ owns (c : Thread nD τ) arg9 fullShare w ∗ owns (c : Thread nD τ) arg10 fullShare kr ∗ owns (c : Thread nD τ) arg11 fullShare hf2 ∗ (∃ d, owns (c : Thread nD τ) arg12 fullShare d) ∗ owns (c : Thread nD τ) arg13 fullShare lhs ∗ (∃ d, owns (c : Thread nD τ) arg14 fullShare d) ∗ owns (c : Thread nD τ) arg15 fullShare xs
            ∗ (iprop(owns (c : Thread nD τ) arg1 fullShare x ∗ owns (c : Thread nD τ) arg5 fullShare ws ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare w ∗ owns (c : Thread nD τ) arg10 fullShare kr ∗ owns (c : Thread nD τ) arg11 fullShare hf2 ∗ (∃ f, arg12.view.loc (c : Thread nD τ) ↦[arg12.view.set]{fullShare} arg12.view.writes (Elt F) f L12) ∗ owns (c : Thread nD τ) arg13 fullShare lhs ∗ (∃ f, arg14.view.loc (c : Thread nD τ) ↦[arg14.view.set]{fullShare} arg14.view.writes (Elt F) f L14) ∗ owns (c : Thread nD τ) arg15 fullShare xs) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_quarot_down_eq_skeleton]; unfold cc0_quarot_down_skel
    simp only [k0_part261_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part262_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton]
    unfold owns
    iintro ⟨⟨%f1, %hf1, H1⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%f15, %hf15, H15⟩, Hk⟩
    obtain rfl := harg1.eq_unread hf1; obtain rfl := harg5.eq_unread hf5; obtain rfl := harg9.eq_unread hf9; obtain rfl := harg10.eq_unread hf10; obtain rfl := harg11.eq_unread hf11; obtain rfl := harg13.eq_unread hf13; obtain rfl := harg15.eq_unread hf15
    sl_exec (disch := first | sl_exact hc0 | sl_exact hc1 | sl_exact hc2 | sl_exact hc3 | sl_exact hc4)
    sl_step
    iapply Hk
    isplitl [H1]
    · iexists _; isplitr; · ipureintro; exact harg1.read_unread _
      iexact H1
    isplitl [H5]
    · iexists _; isplitr; · ipureintro; exact harg5.read_unread _
      iexact H5
    isplitl [H6]; · iexists _; iexact H6
    isplitl [H7]; · iexists _; iexact H7
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]
    · iexists _; isplitr; · ipureintro; exact harg13.read_unread _
      iexact H13
    isplitl [H14]; · iexists _; iexact H14
    iexists _; isplitr; · ipureintro; exact harg15.read_unread _
    iexact H15

end Cert.KernelIdeal.Run

end
-- ==== Proof.Run.StepB.lean ====
/- At an odd point before the last the body multiplies the tile in the first pair of buffers and rotates the next tile into the second.
   What each buffer then holds, as the tile functions of the blocks. -/
module

public import proofs.«01_k».proof.Proof.Run.RunB
public import proofs.«01_k».proof.Proof.Run.Tiles

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole)
  (hc0 : ¬cond0_0 i) (hc1 : ¬cond0_1 i) (hc2 : ¬cond0_2 i) (hc3 : cond0_3 i) (hc4 : ¬cond0_4 i)
  (x : Vec F S256x3584 .bf16) (ws : Vec F S1x4096 .f32) (w : Vec F S3584x4096 .bf16) (kr : Vec F S224x672 .bf16) (hf2 : Vec F S256x256 .bf16) (lhs : Vec F S256x3584 .bf16) (xs : Vec F S256x128 .f32)

/-- The rotated chunks, as the body loads their operands. -/
def loadB (arg1 : Memref sig .tc .vmem S256x3584 .bf16) (harg1 : arg1.IsWhole) (arg10 : Memref sig .tc .vmem S224x672 .bf16) (harg10 : arg10.IsWhole) (arg11 : Memref sig .tc .vmem S256x256 .bf16) (harg11 : arg11.IsWhole) (x : Vec F S256x3584 .bf16) (hf2 : Vec F S256x256 .bf16) (kr : Vec F S224x672 .bf16) : Fin 8 → FVec F S224x512 .f32 :=
  fun c => Spec.second (Spec.first (fun p => View.readAt (Elt F) arg1.view (Rect.unit (s := S256x3584) ![32 * c.val, 256 * p.val] S32x256.size (inb_x c p)).toLoadRect (harg1.unread x)) (View.readAt (Elt F) arg11.view (Rect.unit (s := S256x256) ![0, 0] S256x256.size inb_S256x256_S256x256_0_0).toLoadRect (harg11.unread hf2))) (View.readAt (Elt F) arg10.view (Rect.unit (s := S224x672) ![0, 0] S224x672.size inb_S224x672_S224x672_0_0).toLoadRect (harg10.unread kr))

theorem loadB_eq (arg1 : Memref sig .tc .vmem S256x3584 .bf16) (harg1 : arg1.IsWhole) (arg10 : Memref sig .tc .vmem S224x672 .bf16) (harg10 : arg10.IsWhole) (arg11 : Memref sig .tc .vmem S256x256 .bf16) (harg11 : arg11.IsWhole) (x : Vec F S256x3584 .bf16) (hf2 : Vec F S256x256 .bf16) (kr : Vec F S224x672 .bf16) : loadB arg1 harg1 arg10 harg10 arg11 harg11 x hf2 kr = rotated x hf2 kr := by
  unfold loadB rotated
  simp only [View.readAt_eq_ld, Memref.IsWhole.read_unread]

theorem runB_L6 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).1 = yList lhs w xs ws := by
  refine (show _ = yPieces (View.readAt (Elt F) arg12.view (Rect.unit (s := S256x3584) ![0, 0] S256x3584.size inb_S256x3584_S256x3584_0_0).toLoadRect (harg12.unread lhs))
    (fun k => View.readAt (Elt F) arg9.view (Rect.unit (s := S3584x4096) ![0, 512 * k.val] S3584x512.size (inb_w k)).toLoadRect (harg9.unread w))
    (View.readAt (Elt F) arg14.view (Rect.unit (s := S256x128) ![0, 0] S256x128.size inb_S256x128_S256x128_0_0).toLoadRect (harg14.unread xs))
    (fun k => View.readAt (Elt F) arg5.view (Rect.unit (s := S1x4096) ![0, 512 * k.val] S1x512.size (inb_ws k)).toLoadRect (harg5.unread ws)) from by sl_kernel_rfl).trans ?_
  simp only [View.readAt_eq_ld, Memref.IsWhole.read_unread]
  rfl

theorem runB_L7 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.1 = codePieces (rotated x hf2 kr) := by
  refine (show _ = codePieces (loadB arg1 harg1 arg10 harg10 arg11 harg11 x hf2 kr) from by sl_kernel_rfl).trans ?_
  rw [loadB_eq]

theorem runB_L8 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.2.1 = scaleList (rotated x hf2 kr) := by
  refine (show _ = scalePieces (fun r => View.readCov arg15.view (xsPieces (loadB arg1 harg1 arg10 harg10 arg11 harg11 x hf2 kr)) (Rect.unit (s := S256x128) ![128 * r.val, 0] S128x128.size (inb_xs128 r)).toLoadRect) from by sl_kernel_rfl).trans ?_
  rw [loadB_eq]
  simp only [View.readCov_eq_canon_ld _ _ _ (cover_xs _)]
  rfl

theorem runB_L13 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.2.2.1 = lhsPieces (rotated x hf2 kr) := by
  refine (show _ = lhsPieces (loadB arg1 harg1 arg10 harg10 arg11 harg11 x hf2 kr) from by sl_kernel_rfl).trans ?_
  rw [loadB_eq]

theorem runB_L15 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.2.2.2.1 = xsPieces (rotated x hf2 kr) := by
  refine (show _ = xsPieces (loadB arg1 harg1 arg10 harg10 arg11 harg11 x hf2 kr) from by sl_kernel_rfl).trans ?_
  rw [loadB_eq]

include hc0 hc1 hc2 hc3 hc4 in
/-- The body's triple over the buffers it touches. -/
theorem stepB (E : Set ℕ) (K : PUnit → sProp 𝕄) :
    iprop(owns (c : Thread nD τ) arg1 fullShare x ∗ owns (c : Thread nD τ) arg5 fullShare ws ∗ (∃ d, owns (c : Thread nD τ) arg6 fullShare d) ∗ (∃ d, owns (c : Thread nD τ) arg7 fullShare d) ∗ (∃ d, owns (c : Thread nD τ) arg8 fullShare d) ∗ owns (c : Thread nD τ) arg9 fullShare w ∗ owns (c : Thread nD τ) arg10 fullShare kr ∗ owns (c : Thread nD τ) arg11 fullShare hf2 ∗ owns (c : Thread nD τ) arg12 fullShare lhs ∗ (∃ d, owns (c : Thread nD τ) arg13 fullShare d) ∗ owns (c : Thread nD τ) arg14 fullShare xs ∗ (∃ d, owns (c : Thread nD τ) arg15 fullShare d)
        ∗ (iprop(owns (c : Thread nD τ) arg1 fullShare x ∗ owns (c : Thread nD τ) arg5 fullShare ws ∗ owns (c : Thread nD τ) arg6 fullShare (yTile lhs w xs ws) ∗ owns (c : Thread nD τ) arg7 fullShare (codeTile (rotated x hf2 kr)) ∗ owns (c : Thread nD τ) arg8 fullShare (scaleTile (rotated x hf2 kr)) ∗ owns (c : Thread nD τ) arg9 fullShare w ∗ owns (c : Thread nD τ) arg10 fullShare kr ∗ owns (c : Thread nD τ) arg11 fullShare hf2 ∗ owns (c : Thread nD τ) arg12 fullShare lhs ∗ owns (c : Thread nD τ) arg13 fullShare (lhsTile (rotated x hf2 kr)) ∗ owns (c : Thread nD τ) arg14 fullShare xs ∗ owns (c : Thread nD τ) arg15 fullShare (xsTile (rotated x hf2 kr))) -∗ K ⟨⟩))
      ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H5, H6, H7, H8, H9, H10, H11, H12, H13, H14, H15, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.2.2.2.2 E K)
  isplitl [H1]; · iexact H1
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H5, H6, H7, H8, H9, H10, H11, H12, H13, H14, H15⟩
  iapply Hk
  isplitl [H1]; · iexact H1
  isplitl [H5]; · iexact H5
  isplitl [H6]; · iapply (owns_of_writes c arg6 _ _ (runB_L6 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_y _ _ _ _)); iexact H6
  isplitl [H7]; · iapply (owns_of_writes c arg7 _ _ (runB_L7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_codes _)); iexact H7
  isplitl [H8]; · iapply (owns_of_writes c arg8 _ _ (runB_L8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_scale _)); iexact H8
  isplitl [H9]; · iexact H9
  isplitl [H10]; · iexact H10
  isplitl [H11]; · iexact H11
  isplitl [H12]; · iexact H12
  isplitl [H13]; · iapply (owns_of_writes c arg13 _ _ (runB_L13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_lhs _)); iexact H13
  isplitl [H14]; · iexact H14
  iapply (owns_of_writes c arg15 _ _ (runB_L15 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_xs _)); iexact H15

end Cert.KernelIdeal.Run

end
-- ==== Proof.Run.StepC.lean ====
/- At an even point after the first and before the last the body multiplies the tile in the second pair of buffers and rotates the next tile into the first.
   What each buffer then holds, as the tile functions of the blocks. -/
module

public import proofs.«01_k».proof.Proof.Run.RunC
public import proofs.«01_k».proof.Proof.Run.Tiles
public import proofs.«01_k».proof.Proof.Run.StepB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole)
  (hc0 : ¬cond0_0 i) (hc1 : ¬cond0_1 i) (hc2 : cond0_2 i) (hc3 : ¬cond0_3 i) (hc4 : ¬cond0_4 i)
  (x : Vec F S256x3584 .bf16) (ws : Vec F S1x4096 .f32) (w : Vec F S3584x4096 .bf16) (kr : Vec F S224x672 .bf16) (hf2 : Vec F S256x256 .bf16) (lhs : Vec F S256x3584 .bf16) (xs : Vec F S256x128 .f32)

theorem runC_L6 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).1 = yList lhs w xs ws := by
  refine (show _ = yPieces (View.readAt (Elt F) arg13.view (Rect.unit (s := S256x3584) ![0, 0] S256x3584.size inb_S256x3584_S256x3584_0_0).toLoadRect (harg13.unread lhs))
    (fun k => View.readAt (Elt F) arg9.view (Rect.unit (s := S3584x4096) ![0, 512 * k.val] S3584x512.size (inb_w k)).toLoadRect (harg9.unread w))
    (View.readAt (Elt F) arg15.view (Rect.unit (s := S256x128) ![0, 0] S256x128.size inb_S256x128_S256x128_0_0).toLoadRect (harg15.unread xs))
    (fun k => View.readAt (Elt F) arg5.view (Rect.unit (s := S1x4096) ![0, 512 * k.val] S1x512.size (inb_ws k)).toLoadRect (harg5.unread ws)) from by sl_kernel_rfl).trans ?_
  simp only [View.readAt_eq_ld, Memref.IsWhole.read_unread]
  rfl

theorem runC_L7 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.1 = codePieces (rotated x hf2 kr) := by
  refine (show _ = codePieces (loadB arg1 harg1 arg10 harg10 arg11 harg11 x hf2 kr) from by sl_kernel_rfl).trans ?_
  rw [loadB_eq]

theorem runC_L8 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.2.1 = scaleList (rotated x hf2 kr) := by
  refine (show _ = scalePieces (fun r => View.readCov arg14.view (xsPieces (loadB arg1 harg1 arg10 harg10 arg11 harg11 x hf2 kr)) (Rect.unit (s := S256x128) ![128 * r.val, 0] S128x128.size (inb_xs128 r)).toLoadRect) from by sl_kernel_rfl).trans ?_
  rw [loadB_eq]
  simp only [View.readCov_eq_canon_ld _ _ _ (cover_xs _)]
  rfl

theorem runC_L12 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.2.2.1 = lhsPieces (rotated x hf2 kr) := by
  refine (show _ = lhsPieces (loadB arg1 harg1 arg10 harg10 arg11 harg11 x hf2 kr) from by sl_kernel_rfl).trans ?_
  rw [loadB_eq]

theorem runC_L14 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.2.2.2.1 = xsPieces (rotated x hf2 kr) := by
  refine (show _ = xsPieces (loadB arg1 harg1 arg10 harg10 arg11 harg11 x hf2 kr) from by sl_kernel_rfl).trans ?_
  rw [loadB_eq]

include hc0 hc1 hc2 hc3 hc4 in
/-- The body's triple over the buffers it touches. -/
theorem stepC (E : Set ℕ) (K : PUnit → sProp 𝕄) :
    iprop(owns (c : Thread nD τ) arg1 fullShare x ∗ owns (c : Thread nD τ) arg5 fullShare ws ∗ (∃ d, owns (c : Thread nD τ) arg6 fullShare d) ∗ (∃ d, owns (c : Thread nD τ) arg7 fullShare d) ∗ (∃ d, owns (c : Thread nD τ) arg8 fullShare d) ∗ owns (c : Thread nD τ) arg9 fullShare w ∗ owns (c : Thread nD τ) arg10 fullShare kr ∗ owns (c : Thread nD τ) arg11 fullShare hf2 ∗ (∃ d, owns (c : Thread nD τ) arg12 fullShare d) ∗ owns (c : Thread nD τ) arg13 fullShare lhs ∗ (∃ d, owns (c : Thread nD τ) arg14 fullShare d) ∗ owns (c : Thread nD τ) arg15 fullShare xs
        ∗ (iprop(owns (c : Thread nD τ) arg1 fullShare x ∗ owns (c : Thread nD τ) arg5 fullShare ws ∗ owns (c : Thread nD τ) arg6 fullShare (yTile lhs w xs ws) ∗ owns (c : Thread nD τ) arg7 fullShare (codeTile (rotated x hf2 kr)) ∗ owns (c : Thread nD τ) arg8 fullShare (scaleTile (rotated x hf2 kr)) ∗ owns (c : Thread nD τ) arg9 fullShare w ∗ owns (c : Thread nD τ) arg10 fullShare kr ∗ owns (c : Thread nD τ) arg11 fullShare hf2 ∗ owns (c : Thread nD τ) arg12 fullShare (lhsTile (rotated x hf2 kr)) ∗ owns (c : Thread nD τ) arg13 fullShare lhs ∗ owns (c : Thread nD τ) arg14 fullShare (xsTile (rotated x hf2 kr)) ∗ owns (c : Thread nD τ) arg15 fullShare xs) -∗ K ⟨⟩))
      ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H1, H5, H6, H7, H8, H9, H10, H11, H12, H13, H14, H15, Hk⟩
  iapply ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs).2.2.2.2.2 E K)
  isplitl [H1]; · iexact H1
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H5, H6, H7, H8, H9, H10, H11, H12, H13, H14, H15⟩
  iapply Hk
  isplitl [H1]; · iexact H1
  isplitl [H5]; · iexact H5
  isplitl [H6]; · iapply (owns_of_writes c arg6 _ _ (runC_L6 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_y _ _ _ _)); iexact H6
  isplitl [H7]; · iapply (owns_of_writes c arg7 _ _ (runC_L7 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_codes _)); iexact H7
  isplitl [H8]; · iapply (owns_of_writes c arg8 _ _ (runC_L8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_scale _)); iexact H8
  isplitl [H9]; · iexact H9
  isplitl [H10]; · iexact H10
  isplitl [H11]; · iexact H11
  isplitl [H12]; · iapply (owns_of_writes c arg12 _ _ (runC_L12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_lhs _)); iexact H12
  isplitl [H13]; · iexact H13
  isplitl [H14]; · iapply (owns_of_writes c arg14 _ _ (runC_L14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x ws w kr hf2 lhs xs) (cover_xs _)); iexact H14
  iexact H15

end Cert.KernelIdeal.Run

end
-- ==== Proof.Run.RunD.lean ====
/- At the last point the body only multiplies the last tile.
   The run of the body is found by execution, and with it the pieces that each buffer is written with. -/
module

public import proofs.«01_k».proof.Proof.Run.RunC

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 8000000 in
/-- The pieces written in case D, last first, and the triple of the body over the buffers it touches. -/
def runD (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole)
    (hc0 : ¬cond0_0 i) (hc1 : ¬cond0_1 i) (hc2 : ¬cond0_2 i) (hc3 : ¬cond0_3 i) (hc4 : cond0_4 i)
    (ws : Vec F S1x4096 .f32) (w : Vec F S3584x4096 .bf16) (lhs : Vec F S256x3584 .bf16) (xs : Vec F S256x128 .f32) :
    { L6 : List (View.Piece (Elt F) S256x4096 .bf16) //
      ∀ (E : Set ℕ) (K : PUnit → sProp 𝕄),
        iprop(owns (c : Thread nD τ) arg5 fullShare ws ∗ (∃ d, owns (c : Thread nD τ) arg6 fullShare d) ∗ owns (c : Thread nD τ) arg9 fullShare w ∗ owns (c : Thread nD τ) arg13 fullShare lhs ∗ owns (c : Thread nD τ) arg15 fullShare xs
            ∗ (iprop(owns (c : Thread nD τ) arg5 fullShare ws ∗ (∃ f, arg6.view.loc (c : Thread nD τ) ↦[arg6.view.set]{fullShare} arg6.view.writes (Elt F) f L6) ∗ owns (c : Thread nD τ) arg9 fullShare w ∗ owns (c : Thread nD τ) arg13 fullShare lhs ∗ owns (c : Thread nD τ) arg15 fullShare xs) -∗ K ⟨⟩))
          ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_quarot_down_eq_skeleton]; unfold cc0_quarot_down_skel
    simp only [k0_part393_eq_skeleton, k0_part394_eq_skeleton, k0_part395_eq_skeleton]
    unfold owns
    iintro ⟨⟨%f5, %hf5, H5⟩, ⟨%d6, %f6, -, H6⟩, ⟨%f9, %hf9, H9⟩, ⟨%f13, %hf13, H13⟩, ⟨%f15, %hf15, H15⟩, Hk⟩
    obtain rfl := harg5.eq_unread hf5; obtain rfl := harg9.eq_unread hf9; obtain rfl := harg13.eq_unread hf13; obtain rfl := harg15.eq_unread hf15
    sl_exec (disch := first | sl_exact hc0 | sl_exact hc1 | sl_exact hc2 | sl_exact hc3 | sl_exact hc4)
    sl_step
    iapply Hk
    isplitl [H5]
    · iexists _; isplitr; · ipureintro; exact harg5.read_unread _
      iexact H5
    isplitl [H6]; · iexists _; iexact H6
    isplitl [H9]
    · iexists _; isplitr; · ipureintro; exact harg9.read_unread _
      iexact H9
    isplitl [H13]
    · iexists _; isplitr; · ipureintro; exact harg13.read_unread _
      iexact H13
    iexists _; isplitr; · ipureintro; exact harg15.read_unread _
    iexact H15

end Cert.KernelIdeal.Run

end
-- ==== Proof.Run.StepD.lean ====
/- At the last point the body only multiplies the last tile.
   What each buffer then holds, as the tile functions of the blocks. -/
module

public import proofs.«01_k».proof.Proof.Run.RunD
public import proofs.«01_k».proof.Proof.Run.Tiles

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) (arg1 : Memref sig .tc .vmem S256x3584 .bf16) (harg1 : arg1.IsWhole) (arg2 : Memref sig .tc .vmem S28x28 .bf16) (harg2 : arg2.IsWhole) (arg3 : Memref sig .tc .vmem S128x128 .bf16) (harg3 : arg3.IsWhole) (arg4 : Memref sig .tc .vmem S4096x448 .i32) (harg4 : arg4.IsWhole) (arg5 : Memref sig .tc .vmem S1x4096 .f32) (harg5 : arg5.IsWhole) (arg6 : Memref sig .tc .vmem S256x4096 .bf16) (harg6 : arg6.IsWhole) (arg7 : Memref sig .tc .vmem S256x3584 .i8) (harg7 : arg7.IsWhole) (arg8 : Memref sig .tc .vmem S1x2x128 .f32) (harg8 : arg8.IsWhole) (arg9 : Memref sig .tc .vmem S3584x4096 .bf16) (harg9 : arg9.IsWhole) (arg10 : Memref sig .tc .vmem S224x672 .bf16) (harg10 : arg10.IsWhole) (arg11 : Memref sig .tc .vmem S256x256 .bf16) (harg11 : arg11.IsWhole) (arg12 : Memref sig .tc .vmem S256x3584 .bf16) (harg12 : arg12.IsWhole) (arg13 : Memref sig .tc .vmem S256x3584 .bf16) (harg13 : arg13.IsWhole) (arg14 : Memref sig .tc .vmem S256x128 .f32) (harg14 : arg14.IsWhole) (arg15 : Memref sig .tc .vmem S256x128 .f32) (harg15 : arg15.IsWhole)
  (hc0 : ¬cond0_0 i) (hc1 : ¬cond0_1 i) (hc2 : ¬cond0_2 i) (hc3 : ¬cond0_3 i) (hc4 : cond0_4 i)
  (ws : Vec F S1x4096 .f32) (w : Vec F S3584x4096 .bf16) (lhs : Vec F S256x3584 .bf16) (xs : Vec F S256x128 .f32)

theorem runD_L6 : (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 ws w lhs xs).1 = yList lhs w xs ws := by
  refine (show _ = yPieces (View.readAt (Elt F) arg13.view (Rect.unit (s := S256x3584) ![0, 0] S256x3584.size inb_S256x3584_S256x3584_0_0).toLoadRect (harg13.unread lhs))
    (fun k => View.readAt (Elt F) arg9.view (Rect.unit (s := S3584x4096) ![0, 512 * k.val] S3584x512.size (inb_w k)).toLoadRect (harg9.unread w))
    (View.readAt (Elt F) arg15.view (Rect.unit (s := S256x128) ![0, 0] S256x128.size inb_S256x128_S256x128_0_0).toLoadRect (harg15.unread xs))
    (fun k => View.readAt (Elt F) arg5.view (Rect.unit (s := S1x4096) ![0, 512 * k.val] S1x512.size (inb_ws k)).toLoadRect (harg5.unread ws)) from by sl_kernel_rfl).trans ?_
  simp only [View.readAt_eq_ld, Memref.IsWhole.read_unread]
  rfl

include hc0 hc1 hc2 hc3 hc4 in
/-- The body's triple over the buffers it touches. -/
theorem stepD (E : Set ℕ) (K : PUnit → sProp 𝕄) :
    iprop(owns (c : Thread nD τ) arg5 fullShare ws ∗ (∃ d, owns (c : Thread nD τ) arg6 fullShare d) ∗ owns (c : Thread nD τ) arg9 fullShare w ∗ owns (c : Thread nD τ) arg13 fullShare lhs ∗ owns (c : Thread nD τ) arg15 fullShare xs
        ∗ (iprop(owns (c : Thread nD τ) arg5 fullShare ws ∗ owns (c : Thread nD τ) arg6 fullShare (yTile lhs w xs ws) ∗ owns (c : Thread nD τ) arg9 fullShare w ∗ owns (c : Thread nD τ) arg13 fullShare lhs ∗ owns (c : Thread nD τ) arg15 fullShare xs) -∗ K ⟨⟩))
      ⊢ wp frame (wpE (defs₀ (F := F)) Variants.none c none) E (cc0_quarot_down i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H5, H6, H9, H13, H15, Hk⟩
  iapply ((runD c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 ws w lhs xs).2 E K)
  isplitl [H5]; · iexact H5
  isplitl [H6]; · iexact H6
  isplitl [H9]; · iexact H9
  isplitl [H13]; · iexact H13
  isplitl [H15]; · iexact H15
  iintro ⟨H5, H6, H9, H13, H15⟩
  iapply Hk
  isplitl [H5]; · iexact H5
  isplitl [H6]; · iapply (owns_of_writes c arg6 _ _ (runD_L6 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 ws w lhs xs) (cover_y _ _ _ _)); iexact H6
  isplitl [H9]; · iexact H9
  isplitl [H13]; · iexact H13
  iexact H15

end Cert.KernelIdeal.Run

end
-- ==== Proof.Run.Data.lean ====
/- The proof data of the pipeline: what each staging buffer holds after every point, and what the scratch
   buffers carry from point to point. Point `s` leaves the codes and scales of tile `s` and the product of
   tile `s - 1`; the weight and the two rotations are filled at the first point and stay; the codes and
   scales of the last tile lie in the first pair of scratch buffers after an even point and in the second
   after an odd one. -/
module

public import proofs.«01_k».proof.Proof.Run.StepA
public import proofs.«01_k».proof.Proof.Run.StepC
public import proofs.«01_k».proof.Proof.Run.StepD

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- The grid point that rotates tile `n`. -/
def pt (n : ℕ) : Fin cfg0.N := ⟨min n 53, lt_of_lt_of_eq (by omega) N_0.symm⟩

/-- The weight, the block rotation and the small rotation as the first point leaves them. -/
def wAll (c : Dev nD) : Vec F S3584x4096 .bf16 := wTile (iblk m c 3 (pt 0))
def kronAll (c : Dev nD) : Vec F S224x672 .bf16 := kronTile (iblk m c 1 (pt 0))
def hff2All (c : Dev nD) : Vec F S256x256 .bf16 := hff2Tile (iblk m c 2 (pt 0))

/-- Tile `n`, rotated. -/
def rot (c : Dev nD) (n : ℕ) : Fin 8 → FVec F S224x512 .f32 := rotated (iblk m c 0 (pt n)) (hff2All m c) (kronAll m c)

/-- Tile `n`'s codes and scales as a later point reads them. -/
def lhsAt (c : Dev nD) (n : ℕ) : Vec F S256x3584 .bf16 := lhsTile (rot m c n)
def xsAt (c : Dev nD) (n : ℕ) : Vec F S256x128 .f32 := xsTile (rot m c n)

/-- What the two pairs of scratch buffers hold before point `n + 1`: tile `n` in one pair, anything in the other. -/
def pairs (c : Dev nD) (n : ℕ) : sProp 𝕄 :=
  if n % 2 = 0 then iprop(owns (c : Thread nD τ) scM0_3 fullShare (lhsAt m c n) ∗ (∃ d, owns (c : Thread nD τ) scM0_4 fullShare d)
    ∗ owns (c : Thread nD τ) scM0_5 fullShare (xsAt m c n) ∗ (∃ d, owns (c : Thread nD τ) scM0_6 fullShare d))
  else iprop((∃ d, owns (c : Thread nD τ) scM0_3 fullShare d) ∗ owns (c : Thread nD τ) scM0_4 fullShare (lhsAt m c n)
    ∗ (∃ d, owns (c : Thread nD τ) scM0_5 fullShare d) ∗ owns (c : Thread nD τ) scM0_6 fullShare (xsAt m c n))

/-- The scratch buffers before point `n`. -/
def Phi (c : Dev nD) : ℕ → sProp 𝕄
  | 0 => Pipeline.ΦA spec0 c
  | n + 1 => iprop((owns (c : Thread nD τ) scM0_0 fullShare (wAll m c) ∗ owns (c : Thread nD τ) scM0_1 fullShare (kronAll m c)
      ∗ owns (c : Thread nD τ) scM0_2 fullShare (hff2All m c) ∗ pairs m c (min n 53)) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yTile (lhsAt m c (t.val - 1)) (wAll m c) (xsAt m c (t.val - 1)) (iblk m c 4 t)
    | ⟨6, _⟩ => codeTile (rot m c t.val)
    | ⟨7, _⟩ => scaleTile (rot m c t.val)
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = yTile (lhsAt m c (t.val - 1)) (wAll m c) (xsAt m c (t.val - 1)) (iblk m c 4 t) := by dsimp only [dats]
theorem after_6 (c : Dev nD) (t : Fin cfg0.N) : (dats m 0 c).after 6 t = codeTile (rot m c t.val) := by dsimp only [dats]
theorem after_7 (c : Dev nD) (t : Fin cfg0.N) : (dats m 0 c).after 7 t = scaleTile (rot m c t.val) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The schedule of the outputs -/

/-- The product's buffer is left alone at the first point only, the others' at the last point only. -/
theorem idle_5 : ∀ t : Fin cfg0.N, cfg0.idle 5 (grid0.coords t) = decide (t.val = 0) :=
  (by decide +kernel : ∀ t : Fin grid0.N, idle0 5 (grid0.coords t) = decide (t.val = 0))
theorem idle_6 : ∀ t : Fin cfg0.N, cfg0.idle 6 (grid0.coords t) = decide (t.val = 54) :=
  (by decide +kernel : ∀ t : Fin grid0.N, idle0 6 (grid0.coords t) = decide (t.val = 54))
theorem idle_7 : ∀ t : Fin cfg0.N, cfg0.idle 7 (grid0.coords t) = decide (t.val = 54) :=
  (by decide +kernel : ∀ t : Fin grid0.N, idle0 7 (grid0.coords t) = decide (t.val = 54))

/-- The product is written back after every point but the first, codes and scales after every point but the last but one. -/
theorem flush_5 : ∀ t : Fin cfg0.N, (cfg0.win 5).flush t = !decide (t.val = 0) :=
  (by decide +kernel : ∀ t : Fin grid0.N, win0_5.flush t = !decide (t.val = 0))
theorem flush_6 : ∀ t : Fin cfg0.N, (cfg0.win 6).flush t = !decide (t.val = 53) :=
  (by decide +kernel : ∀ t : Fin grid0.N, win0_6.flush t = !decide (t.val = 53))
theorem flush_7 : ∀ t : Fin cfg0.N, (cfg0.win 7).flush t = !decide (t.val = 53) :=
  (by decide +kernel : ∀ t : Fin grid0.N, win0_7.flush t = !decide (t.val = 53))

/-- After the last tile its rotation stays. -/
theorem rot_min (c : Dev nD) (n : ℕ) : rot m c (min n 53) = rot m c n := by
  have h : pt (min n 53) = pt n := Fin.ext (show min (min n 53) 53 = min n 53 by omega)
  unfold rot; rw [h]

/-- At the last point the codes' buffer still holds the last tile's. -/
theorem before_6_last (c : Dev nD) (t : Fin cfg0.N) (ht : t.val = 54) (d) :
    (dats m 0 c).before 6 t d = codeTile (rot m c t.val) := by
  rw [(dats m 0 c).before_of_pos 6 t (by omega) ((cfg0.win 6).fetch_out rfl t), flush_6]
  unfold Dat.left
  rw [idle_6, if_neg (by simp [ht])]
  simp only [ht, Nat.reduceSub, Nat.reduceEqDiff, decide_false]
  unfold Dat.kept
  rw [Pipeline.fill_of_clip_none (cfg := cfg0) 6 _ (fun _ => rfl) d ((dats m 0 c).after 6 _), Pipeline.Window.fill_cut, after_6]
  exact congrArg codeTile (rot_min m c 54)

/-- At the last point the scales' buffer still holds the last tile's. -/
theorem before_7_last (c : Dev nD) (t : Fin cfg0.N) (ht : t.val = 54) (d) :
    (dats m 0 c).before 7 t d = scaleTile (rot m c t.val) := by
  rw [(dats m 0 c).before_of_pos 7 t (by omega) ((cfg0.win 7).fetch_out rfl t), flush_7]
  unfold Dat.left
  rw [idle_7, if_neg (by simp [ht])]
  simp only [ht, Nat.reduceSub, Nat.reduceEqDiff, decide_false]
  unfold Dat.kept
  rw [Pipeline.fill_of_clip_none (cfg := cfg0) 7 _ (fun _ => rfl) d ((dats m 0 c).after 7 _), Pipeline.Window.fill_cut, after_7]
  exact congrArg scaleTile (rot_min m c 54)

end Cert.KernelIdeal.Run

end
-- ==== Proof.Run.Sound.lean ====
/- The body's obligation at every point, from the triples of the four kinds of point: the first, the odd and
   the even ones between, and the last. -/
module

public import proofs.«01_k».proof.Proof.Run.Data

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the body is called with at point `t`, -/
def bodyPre (c : Dev nD) (t : Fin cfg0.N) : sProp 𝕄 :=
  iprop(Phi m c t.val ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop(Phi m c (t.val + 1) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (dats m 0 c).leavesExact 5 t
    ∗ (dats m 0 c).leavesExact 6 t
    ∗ (dats m 0 c).leavesExact 7 t)

theorem pairs_even (c : Dev nD) (n : ℕ) (h : n % 2 = 0) : pairs m c n
    = iprop(owns (c : Thread nD τ) scM0_3 fullShare (lhsAt m c n) ∗ (∃ d, owns (c : Thread nD τ) scM0_4 fullShare d)
    ∗ owns (c : Thread nD τ) scM0_5 fullShare (xsAt m c n) ∗ (∃ d, owns (c : Thread nD τ) scM0_6 fullShare d)) := if_pos h

theorem pairs_odd (c : Dev nD) (n : ℕ) (h : n % 2 = 1) : pairs m c n
    = iprop((∃ d, owns (c : Thread nD τ) scM0_3 fullShare d) ∗ owns (c : Thread nD τ) scM0_4 fullShare (lhsAt m c n)
    ∗ (∃ d, owns (c : Thread nD τ) scM0_5 fullShare d) ∗ owns (c : Thread nD τ) scM0_6 fullShare (xsAt m c n)) := if_neg (by omega)

theorem Phi_pos (c : Dev nD) (n : ℕ) (h : n ≠ 0) : Phi m c n
    = iprop((owns (c : Thread nD τ) scM0_0 fullShare (wAll m c) ∗ owns (c : Thread nD τ) scM0_1 fullShare (kronAll m c)
      ∗ owns (c : Thread nD τ) scM0_2 fullShare (hff2All m c) ∗ pairs m c (min (n - 1) 53)) ∗ (∃ r, prngReg c r)) := by
  cases n with
  | zero => exact absurd rfl h
  | succ n => rfl

/-- Every even point but the first and the last satisfies the third condition. -/
theorem even_list (t : Fin cfg0.N) (h : t.val % 2 = 0) (h0 : t.val ≠ 0) (h1 : t.val ≠ 54) : t.val % 55 = 2 ∨ t.val % 55 = 4 ∨ t.val % 55 = 6 ∨ t.val % 55 = 8 ∨ t.val % 55 = 10 ∨ t.val % 55 = 12 ∨ t.val % 55 = 14 ∨ t.val % 55 = 16 ∨ t.val % 55 = 18 ∨ t.val % 55 = 20 ∨ t.val % 55 = 22 ∨ t.val % 55 = 24 ∨ t.val % 55 = 26 ∨ t.val % 55 = 28 ∨ t.val % 55 = 30 ∨ t.val % 55 = 32 ∨ t.val % 55 = 34 ∨ t.val % 55 = 36 ∨ t.val % 55 = 38 ∨ t.val % 55 = 40 ∨ t.val % 55 = 42 ∨ t.val % 55 = 44 ∨ t.val % 55 = 46 ∨ t.val % 55 = 48 ∨ t.val % 55 = 50 ∨ t.val % 55 = 52 := by
  have hN : t.val < 55 := lt_of_lt_of_eq t.isLt N_0
  rw [Nat.mod_eq_of_lt hN]
  obtain ⟨k, hk⟩ : ∃ k, t.val = 2 * k := ⟨t.val / 2, by omega⟩
  rw [hk]
  have hk0 : 1 ≤ k := by omega
  have hk1 : k ≤ 26 := by omega
  clear hk h h0 h1 hN
  revert k
  exact fun k h1 h2 => (by decide +kernel : ∀ k : Fin 27, 1 ≤ k.val → (2 * k.val = 2 ∨ 2 * k.val = 4 ∨ 2 * k.val = 6 ∨ 2 * k.val = 8 ∨ 2 * k.val = 10 ∨ 2 * k.val = 12 ∨ 2 * k.val = 14 ∨ 2 * k.val = 16 ∨ 2 * k.val = 18 ∨ 2 * k.val = 20 ∨ 2 * k.val = 22 ∨ 2 * k.val = 24 ∨ 2 * k.val = 26 ∨ 2 * k.val = 28 ∨ 2 * k.val = 30 ∨ 2 * k.val = 32 ∨ 2 * k.val = 34 ∨ 2 * k.val = 36 ∨ 2 * k.val = 38 ∨ 2 * k.val = 40 ∨ 2 * k.val = 42 ∨ 2 * k.val = 44 ∨ 2 * k.val = 46 ∨ 2 * k.val = 48 ∨ 2 * k.val = 50 ∨ 2 * k.val = 52)) ⟨k, by omega⟩ h1

/-- Where the body stores into the window, it leaves what the proof data say. -/
theorem leaves_live (c : Dev nD) (w : Fin cfg0.W) (t : Fin cfg0.N) (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases hi : cfg0.idle w (cfg0.grid.coords t) <;> simp only [h]

/-- The point whose tile is multiplied at `t`, and the tile rotated at `t`. -/
theorem rot_at (c : Dev nD) (t : Fin cfg0.N) (h : t.val < 54) :
    rotated (iblk m c 0 t) (hff2All m c) (kronAll m c) = rot m c t.val := by
  have e : pt t.val = t := Fin.ext (show min t.val 53 = t.val by omega)
  unfold rot; rw [e]

/-- At the first point. -/
theorem sound_A (c : Dev nD) (t : Fin cfg0.N) (h : t.val = 0) :
    bodyPre m c t ⊢ wp frame (wpE (defs₀ (F := F)) Variants.none c none) Set.univ (bodyAt0 t) (fun _ => bodyPost m c t) := by
  have e : pt 0 = t := Fin.ext (show min 0 53 = t.val by omega)
  unfold bodyPre bodyPost
  rw [leaves_live m c 6 t (.inl (by rw [idle_6]; simp; omega)), leaves_live m c 7 t (.inl (by rw [idle_7]; simp; omega)), after_6, after_7]
  rw [(dats m 0 c).leavesExact_idle 5 t (by rw [idle_5]; simp; omega) (by rw [flush_5]; simp; omega)]
  rw [show Phi m c t.val = Pipeline.ΦA spec0 c by rw [h]; rfl, PhiA0_eq, Phi_pos m c (t.val + 1) (by omega), pairs_even m c _ (by omega)]
  rw [← rot_at m c t (by omega), show lhsAt m c (min (t.val + 1 - 1) 53) = lhsTile (rotated (iblk m c 0 t) (hff2All m c) (kronAll m c)) by
      rw [rot_at m c t (by omega)]; unfold lhsAt; rw [rot_min]; rfl,
    show xsAt m c (min (t.val + 1 - 1) 53) = xsTile (rotated (iblk m c 0 t) (hff2All m c) (kronAll m c)) by
      rw [rot_at m c t (by omega)]; unfold xsAt; rw [rot_min]; rfl]
  unfold wAll kronAll hff2All
  rw [e]
  iintro ⟨⟨⟨HS0, HS1, HS2, HS3, HS4, HS5, HS6⟩, Hg⟩, Ho, H0, H1, H2, H3, H4, H5, ⟨%d6, H6⟩, ⟨%d7, H7⟩⟩
  iapply (stepA c (grid0.coords t) _ _ _ _ _ _ _ _ _ _ _ _ _ _ _ _ _ _ _ _ _ _ _ _ _ _ _ _ _ _ ((hcond0_0 t).mpr (by omega)) ((hcond0_1 t).mpr (by omega)) (fun h => by have := (hcond0_2 t).mp h; omega) (fun h => by have := (hcond0_3 t).mp h; omega) (fun h => by have := (hcond0_4 t).mp h; omega) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS5]; · iexact HS5
  iintro ⟨H0, H1, H2, H3, H6, H7, HS0, HS1, HS2, HS3, HS5⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- At an odd point. -/
theorem sound_B (c : Dev nD) (t : Fin cfg0.N) (h : t.val % 2 = 1) :
    bodyPre m c t ⊢ wp frame (wpE (defs₀ (F := F)) Variants.none c none) Set.univ (bodyAt0 t) (fun _ => bodyPost m c t) := by
  have hN : t.val < 55 := lt_of_lt_of_eq t.isLt N_0
  unfold bodyPre bodyPost
  rw [leaves_live m c 5 t (.inl (by rw [idle_5]; simp; omega)), leaves_live m c 6 t (.inl (by rw [idle_6]; simp; omega)), leaves_live m c 7 t (.inl (by rw [idle_7]; simp; omega)),
    after_5, after_6, after_7]
  rw [Phi_pos m c t.val (by omega), Phi_pos m c (t.val + 1) (by omega), pairs_even m c (min (t.val - 1) 53) (by omega), pairs_odd m c (min (t.val + 1 - 1) 53) (by omega),
    show min (t.val - 1) 53 = t.val - 1 by omega, show min (t.val + 1 - 1) 53 = t.val by omega]
  rw [show lhsAt m c t.val = lhsTile (rot m c t.val) from rfl, show xsAt m c t.val = xsTile (rot m c t.val) from rfl, ← rot_at m c t (by omega)]
  iintro ⟨⟨⟨HS0, HS1, HS2, HS3, HS4, HS5, HS6⟩, Hg⟩, Ho, H0, H1, H2, H3, H4, ⟨%d5, H5⟩, ⟨%d6, H6⟩, ⟨%d7, H7⟩⟩
  iapply (stepB c (grid0.coords t) _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) ((hcond0_3 t).mpr (by omega)) (fun h => by have := (hcond0_4 t).mp h; omega) (iblk m c 0 t) (iblk m c 4 t) (wAll m c) (kronAll m c) (hff2All m c) (lhsAt m c (t.val - 1)) (xsAt m c (t.val - 1)) Set.univ _)
  isplitl [H0]; · iexact H0
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H4, H5, H6, H7, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexists _; iexact HS3
      isplitl [HS4]; · iexact HS4
      isplitl [HS5]; · iexists _; iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- At an even point between the first and the last. -/
theorem sound_C (c : Dev nD) (t : Fin cfg0.N) (h : t.val % 2 = 0) (h0 : t.val ≠ 0) (h1 : t.val ≠ 54) :
    bodyPre m c t ⊢ wp frame (wpE (defs₀ (F := F)) Variants.none c none) Set.univ (bodyAt0 t) (fun _ => bodyPost m c t) := by
  have hN : t.val < 55 := lt_of_lt_of_eq t.isLt N_0
  unfold bodyPre bodyPost
  rw [leaves_live m c 5 t (.inl (by rw [idle_5]; simp; omega)), leaves_live m c 6 t (.inl (by rw [idle_6]; simp; omega)), leaves_live m c 7 t (.inl (by rw [idle_7]; simp; omega)),
    after_5, after_6, after_7]
  rw [Phi_pos m c t.val (by omega), Phi_pos m c (t.val + 1) (by omega), pairs_odd m c (min (t.val - 1) 53) (by omega), pairs_even m c (min (t.val + 1 - 1) 53) (by omega),
    show min (t.val - 1) 53 = t.val - 1 by omega, show min (t.val + 1 - 1) 53 = t.val by omega]
  rw [show lhsAt m c t.val = lhsTile (rot m c t.val) from rfl, show xsAt m c t.val = xsTile (rot m c t.val) from rfl, ← rot_at m c t (by omega)]
  iintro ⟨⟨⟨HS0, HS1, HS2, HS3, HS4, HS5, HS6⟩, Hg⟩, Ho, H0, H1, H2, H3, H4, ⟨%d5, H5⟩, ⟨%d6, H6⟩, ⟨%d7, H7⟩⟩
  iapply (stepC c (grid0.coords t) _ _ _ _ _ _ _ _ _ _ _ _ _ _ _ _ _ _ _ _ _ _ _ _ _ _ _ _ _ _ (fun h => by have := (hcond0_0 t).mp h; omega) (fun h => by have := (hcond0_1 t).mp h; omega) ((hcond0_2 t).mpr (even_list t h h0 h1)) (fun h => by have := (hcond0_3 t).mp h; omega) (fun h => by have := (hcond0_4 t).mp h; omega) (iblk m c 0 t) (iblk m c 4 t) (wAll m c) (kronAll m c) (hff2All m c) (lhsAt m c (t.val - 1)) (xsAt m c (t.val - 1)) Set.univ _)
  isplitl [H0]; · iexact H0
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H4, H5, H6, H7, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexists _; iexact HS4
      isplitl [HS5]; · iexact HS5
      iexists _; iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- At the last point. -/
theorem sound_D (c : Dev nD) (t : Fin cfg0.N) (h : t.val = 54) :
    bodyPre m c t ⊢ wp frame (wpE (defs₀ (F := F)) Variants.none c none) Set.univ (bodyAt0 t) (fun _ => bodyPost m c t) := by
  unfold bodyPre bodyPost
  rw [leaves_live m c 5 t (.inl (by rw [idle_5]; simp; omega)), leaves_live m c 6 t (.inr (by rw [flush_6]; simp; omega)), leaves_live m c 7 t (.inr (by rw [flush_7]; simp; omega)),
    after_5, after_6, after_7]
  simp only [before_6_last m c t h, before_7_last m c t h]
  rw [Phi_pos m c t.val (by omega), Phi_pos m c (t.val + 1) (by omega),
    show min (t.val - 1) 53 = t.val - 1 by omega, show min (t.val + 1 - 1) 53 = t.val - 1 by omega, pairs_odd m c (t.val - 1) (by omega)]
  iintro ⟨⟨⟨HS0, HS1, HS2, HS3, HS4, HS5, HS6⟩, Hg⟩, Ho, H0, H1, H2, H3, H4, ⟨%d5, H5⟩, ⟨%d6, H6⟩, ⟨%d7, H7⟩⟩
  iapply (stepD c (grid0.coords t) _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) ((hcond0_4 t).mpr (by omega)) (iblk m c 4 t) (wAll m c) (lhsAt m c (t.val - 1)) (xsAt m c (t.val - 1)) Set.univ _)
  isplitl [H4]; · iexact H4
  isplitl [H5]; · iexists _; iexact H5
  isplitl [HS0]; · iexact HS0
  isplitl [HS4]; · iexact HS4
  isplitl [HS6]; · iexact HS6
  iintro ⟨H4, H5, HS0, HS4, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's triple at any point. -/
theorem sound (c : Dev nD) (t : Fin cfg0.N) :
    bodyPre m c t ⊢ wp frame (wpE (defs₀ (F := F)) Variants.none c none) Set.univ (bodyAt0 t) (fun _ => bodyPost m c t) := by
  have hN : t.val < 55 := lt_of_lt_of_eq t.isLt N_0
  by_cases h0 : t.val = 0
  · exact sound_A m c t h0
  by_cases h1 : t.val = 54
  · exact sound_D m c t h1
  rcases Nat.mod_two_eq_zero_or_one t.val with h | h
  · exact sound_C m c t h h0 h1
  · exact sound_B m c t h

/-- The same with the windows as the pipeline hands them over. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t
        ∗ (dats m 0 c).leavesExact 6 t ∗ (dats m 0 c).leavesExact 7 t)) := by
  simp only [before_0, before_1, before_2, before_3, before_4]
  rw [leaves_live m c 0 t (.inl (liveAt0_0 t)), leaves_live m c 1 t (.inl (liveAt0_1 t)), leaves_live m c 2 t (.inl (liveAt0_2 t)),
    leaves_live m c 3 t (.inl (liveAt0_3 t)), leaves_live m c 4 t (.inl (liveAt0_4 t)), after_0, after_1, after_2, after_3, after_4]
  refine BIBase.Entails.trans ?_ (sound m c t)
  unfold bodyPre
  rw [show (dats m 0 c).Φ t.castSucc = Phi m c t.val from rfl]
  iintro ⟨HΦ, Ho, ⟨%d0, H0⟩, ⟨%d1, H1⟩, ⟨%d2, H2⟩, ⟨%d3, H3⟩, ⟨%d4, H4⟩, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Run

end
-- ==== Proof.Run.Launch.lean ====
/- The launch: every run of the kernel ends with each window's array at what the proof data say, each argument
   array unchanged and no semaphore counter raised. -/
module

public import proofs.«01_k».proof.Proof.Run.Sound
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the scratch's contents are forgotten. -/
theorem hout (c : Dev nD) : (dats m 0 c).Φ (Fin.last cfg0.N) ⊢ Pipeline.ΦA spec0 c := by
  have hN : cfg0.N = 55 := N_0
  rw [show (dats m 0 c).Φ (Fin.last cfg0.N) = Phi m c cfg0.N from rfl, hN, Phi_pos m c 55 (by omega), PhiA0_eq,
    pairs_odd m c _ (by omega)]
  iintro ⟨⟨HS0, HS1, HS2, HS3, HS4, HS5, HS6⟩, Hg⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexact HS3
    isplitl [HS4]; · iexists _; iexact HS4
    isplitl [HS5]; · iexact HS5
    iexists _; iexact HS6
  iexact Hg

-- the launch's implicit arguments are found by unfolding plain definitions in a metavariable's type
set_option backward.isDefEq.respectTransparency.types false in
/-- The run: each array, and the counters. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run's arrays. -/
theorem run_arrays : θ_run defs (onTc (τ := τ) (main (F := F))) (s₀ m ρ) (Pipeline.FramePost cfgs (dats m) 0 (V m)) :=
  (θ_run defs _ _).mono (fun _ h => h.1) (run_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_arrays m ρ)) ((θ_run defs _ _).mono (fun _ h => h.2) (run_quiescent m ρ))

end Cert.KernelIdeal.Run

end
-- ==== Proof.Value.Index.lean ====
/- Indices that fall into blocks of one length, sums over them, and the shape operations of the kernel read
   at such indices. -/
module

public import proofs.«01_k».proof.Proof.Run.Spec
public import Idealize.ShloMosaic.Lib.ValueIdx
public import Idealize.ShloMosaic.Lib.ValueLayout
public import Idealize.ShloMosaic.Lib.Pipeline.Value
public import Idealize.ShloMosaic.Lib.MatmulPlain
public import Idealize.ShloMosaic.Lib.IdealHost
public import Idealize.ShloMosaic.PureOps.Ideal
public import Idealize.ShloMosaic.PureOps.Ideal.Laws

@[expose] public section

noncomputable section

namespace Cert.Index

open Idealize.ShloMosaic Idealize.ShloMosaic.ValueIdx

/-- Position `b` of block `a`. -/
def mix {m n : Nat} (N : Nat) (a : Fin m) (b : Fin n) (h : m * n = N := by rfl) : Fin N :=
  ⟨n * a.val + b.val, by
    have ha := a.isLt; have hb := b.isLt
    calc n * a.val + b.val < n * a.val + n := by omega
      _ = n * (a.val + 1) := by rw [Nat.mul_succ]
      _ ≤ n * m := Nat.mul_le_mul_left n ha
      _ = N := by rw [Nat.mul_comm, h]⟩

@[simp] theorem mix_val {m n N : Nat} (a : Fin m) (b : Fin n) (h : m * n = N) : (mix N a b h).val = n * a.val + b.val := rfl

/-- Every position lies in a block. -/
theorem exists_mix {m n N : Nat} (h : m * n = N) (k : Fin N) : ∃ (a : Fin m) (b : Fin n), k = mix N a b h := by
  have hn : 0 < n := by
    rcases Nat.eq_zero_or_pos n with h0 | h0
    · subst h0; have := k.isLt; omega
    · exact h0
  refine ⟨⟨k.val / n, ?_⟩, ⟨k.val % n, Nat.mod_lt _ hn⟩, Fin.ext ?_⟩
  · rw [Nat.div_lt_iff_lt_mul hn, h]; exact k.isLt
  · simpa using (Nat.div_add_mod k.val n).symm

/-- A position names its block and its place in the block. -/
theorem mix_inj {m n N : Nat} {a a' : Fin m} {b b' : Fin n} {h : m * n = N} : mix N a b h = mix N a' b' h ↔ a = a' ∧ b = b' := by
  constructor
  · intro e
    have e' : n * a.val + b.val = n * a'.val + b'.val := congrArg Fin.val e
    have hn : 0 < n := by have := b.isLt; omega
    have h1 := congrArg (· / n) e'
    have h2 := congrArg (· % n) e'
    simp only [Nat.mul_add_div hn, Nat.div_eq_of_lt b.isLt, Nat.div_eq_of_lt b'.isLt, Nat.mul_add_mod, Nat.mod_eq_of_lt b.isLt,
      Nat.mod_eq_of_lt b'.isLt, Nat.add_zero] at h1 h2
    exact ⟨Fin.ext h1, Fin.ext h2⟩
  · rintro ⟨rfl, rfl⟩; rfl

/-- A sum over the positions is the sum over the blocks of the sums over their places. -/
theorem sum_mix {M : Type} [AddCommMonoid M] {m n N : Nat} (h : m * n = N) (f : Fin N → M) :
    ∑ k, f k = ∑ a : Fin m, ∑ b : Fin n, f (mix N a b h) := by
  subst h
  rw [← Equiv.sum_comp finProdFinEquiv f, Fintype.sum_prod_type]
  refine Finset.sum_congr rfl fun a _ => Finset.sum_congr rfl fun b _ => congrArg f (Fin.ext ?_)
  simp [finProdFinEquiv, mix, Nat.add_comm]

variable {α : Type}

/-- Blocks put below each other, read at a place of one block. -/
theorem stack_rows {n r w N : Nat} (f : Fin n → (⟨2, ![r, w]⟩ : Shape).Idx → α) (hN : n * r = N)
    (h : Shape.Concatenates (List.replicate n ⟨2, ![r, w]⟩) ⟨2, ![N, w]⟩ 0) (p : Fin n) (a : Fin r) (b : Fin w) :
    KernelIdeal.Spec.stack ⟨2, ![N, w]⟩ 0 n f h (ix2 (mix N p a hN) b) = f p (ix2 a b) := by
  have hr : 0 < r := by have := a.isLt; omega
  refine concatenate_ofFn_apply (t := ⟨2, ![N, w]⟩) (s₁ := ⟨2, ![r, w]⟩) 0 f _ rfl r rfl _ p ?_ (ix2 a b) ?_ ?_
  · show (r * p.val + a.val) / r = p.val
    rw [Nat.mul_add_div hr, Nat.div_eq_of_lt a.isLt, Nat.add_zero]
  · show a.val = (r * p.val + a.val) % r
    rw [Nat.mul_add_mod, Nat.mod_eq_of_lt a.isLt]
  · intro c hc
    match c with
    | ⟨0, _⟩ => exact absurd rfl hc
    | ⟨1, _⟩ => rfl

/-- Blocks put side by side, read at a place of one block. -/
theorem stack_cols {n r w N : Nat} (f : Fin n → (⟨2, ![r, w]⟩ : Shape).Idx → α) (hN : n * w = N)
    (h : Shape.Concatenates (List.replicate n ⟨2, ![r, w]⟩) ⟨2, ![r, N]⟩ 1) (p : Fin n) (a : Fin r) (b : Fin w) :
    KernelIdeal.Spec.stack ⟨2, ![r, N]⟩ 1 n f h (ix2 a (mix N p b hN)) = f p (ix2 a b) := by
  have hw : 0 < w := by have := b.isLt; omega
  refine concatenate_ofFn_apply (t := ⟨2, ![r, N]⟩) (s₁ := ⟨2, ![r, w]⟩) 1 f _ rfl w rfl _ p ?_ (ix2 a b) ?_ ?_
  · show (w * p.val + b.val) / w = p.val
    rw [Nat.mul_add_div hw, Nat.div_eq_of_lt b.isLt, Nat.add_zero]
  · show b.val = (w * p.val + b.val) % w
    rw [Nat.mul_add_mod, Nat.mod_eq_of_lt b.isLt]
  · intro c hc
    match c with
    | ⟨0, _⟩ => rfl
    | ⟨1, _⟩ => exact absurd rfl hc

/-- A part of a matrix, read at a place of it. -/
theorem slice2_apply {m n m' n' : Nat} (o p : Nat) (X : (⟨2, ![m, n]⟩ : Shape).Idx → α)
    (h : (⟨2, ![m, n]⟩ : Shape).Slices ![o, p] ⟨2, ![m', n']⟩) (a : Fin m') (b : Fin n') (a' : Fin m) (b' : Fin n)
    (ha : a'.val = o + a.val) (hb : b'.val = p + b.val) :
    extractStridedSlice ⟨2, ![m', n']⟩ ![o, p] X h (ix2 a b) = X (ix2 a' b') :=
  extractStridedSlice_apply _ X h _ _ fun c => match c with | ⟨0, _⟩ => ha | ⟨1, _⟩ => hb

/-- A matrix product read at an entry. -/
theorem matmul_apply {M K N : Nat} {φ₁ φ₂ : FTy} (prec : Option ContractPrecision)
    (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c) = ∑ k : Fin K, lhs (ix2 r k) * rhs (ix2 k c) := by
  subst hd
  refine (Ideal.matmul_plain_apply prec lhs rhs _ r c).trans ?_
  rw [constant_apply, Ideal.ofBits_zero_f32, zero_add]

/-- A product with a transposed right side read at an entry. -/
theorem matmul_transposed_apply {M K N : Nat} {φ₁ φ₂ : FTy} (prec : Option ContractPrecision)
    (d : DotDims ⟨2, ![M, K]⟩ ⟨2, ![N, K]⟩ ⟨2, ![M, N]⟩) (hd : d = DotDims.transposedRhs M K N)
    (lhs : FVec Ideal ⟨2, ![M, K]⟩ φ₁) (rhs : FVec Ideal ⟨2, ![N, K]⟩ φ₂) (r : Fin M) (c : Fin N) :
    matmul d prec lhs rhs (constant ⟨2, ![M, N]⟩ .f32 0x00000000#32) (ix2 r c) = ∑ k : Fin K, lhs (ix2 r k) * rhs (ix2 c k) := by
  subst hd
  refine (Ideal.matmul_transposedRhs_apply prec lhs rhs _ r c).trans ?_
  rw [constant_apply, Ideal.ofBits_zero_f32, zero_add]

end Cert.Index

end
-- ==== Proof.Value.Quant.lean ====
/- The scale of a row, its codes, and the product with the weight, entry by entry. -/
module

public import proofs.«01_k».proof.Proof.Value.Index

@[expose] public section

set_option maxRecDepth 16384

noncomputable section

namespace Cert.Mean

open Idealize.ShloMosaic Idealize.ShloMosaic.ValueIdx Cert.Index Cert.KernelIdeal Cert.KernelIdeal.Gen

/-- The largest magnitude of a row. -/
def largest (v : Fin 28 → Fin 128 → EReal) : EReal :=
  Finset.univ.sup fun i => Finset.univ.sup fun l => max (v i l) (-(v i l))

/-- The scale to a largest magnitude: a seventh of it, and 1 where it is zero. -/
def scaleOf (m : EReal) : EReal :=
  Scalar.select (Ideal.cmp .oeq m (Ideal.ofBits .f32 0x00000000#32)) (Ideal.ofBits .f32 0x3F800000#32) (Ideal.div m (Ideal.ofBits .f32 0x40E00000#32))

/-- A value over a scale, rounded and kept in [-7, 7]. -/
def rounded (v s : EReal) : EReal :=
  min (((7#32 : BitVec 32).toInt : ℝ) : EReal) (max (((4294967289#32 : BitVec 32).toInt : ℝ) : EReal) (Ideal.liftRound Ideal.roundHalfEven (Ideal.div v s)))

/-- A maximum along one axis is the supremum. -/
theorem max_axis {s t : Shape} {a : Fin s.rank} (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = Finset.univ.sup fun k => (src (h.lift j k) : EReal) := by
  rw [Ideal.multiReduction_maximumf_single, show (FloatOps.ofBits (F := Ideal) .f32 0xFF800000#32) = (⊥ : EReal) from
    (show Ideal.ofBits .f32 0xFF800000#32 = (⊥ : EReal) by simp [Ideal.ofBits, Ideal.ieee])]
  rfl

/-- The largest magnitude of a row of the scaled rotation. -/
theorem largest_apply (w : FVec Ideal S28x8x128 .f32) (s : Fin 8) (h0 : S28x8x128.Reduces [0] S8x128) (h1 : S8x128.Reduces [1] S8)
    (hc : S8.ShapeCasts S8x1) (hφ : FKind.Formats .f32) (hacc : (0xFF800000#32 : BitVec 32) = FKind.maximumf.neutral .f32 hφ) (u : Fin 1) :
    shapeCast S8x1 (multiReduction .maximumf [1] S8 (multiReduction .maximumf [0] S8x128 (absf w) 0xFF800000#32 h0 hφ hacc) 0xFF800000#32 h1 hφ hacc) hc (ix2 s u)
      = largest fun i l => w (ix3 i s l) := by
  rw [shapeCast_apply _ hc (ix2 s u) (ix1 s) (by
    rw [Shape.rowMajor_val_two, Shape.rowMajor_val_one]
    have := u.isLt
    show s.val = s.val * 1 + u.val
    omega)]
  refine (max_axis _ h1 hφ hacc _).trans ?_
  have e : ∀ l : Fin 128, h1.lift (ix1 s) l = ix2 s l := fun l => by
    funext c; match c with | ⟨0, _⟩ => rfl | ⟨1, _⟩ => rfl
  have e' : ∀ (l : Fin 128) (i : Fin 28), h0.lift (ix2 s l) i = ix3 i s l := fun l i => by
    funext c; match c with | ⟨0, _⟩ => rfl | ⟨1, _⟩ => rfl | ⟨2, _⟩ => rfl
  have a0 : ∀ l : Fin 128, multiReduction .maximumf [0] S8x128 (absf w) 0xFF800000#32 h0 hφ hacc (h1.lift (ix1 s) l)
      = Finset.univ.sup fun i : Fin 28 => max (w (ix3 i s l) : EReal) (-(w (ix3 i s l))) := fun l => by
    rw [e]
    refine (max_axis _ h0 hφ hacc _).trans (Finset.sup_congr rfl fun i _ => ?_)
    exact congrArg (absf w) (e' l i)
  exact (Finset.sup_congr rfl fun l _ => a0 l).trans (Finset.sup_comm _ _ _)

/-- The scale of a row. -/
theorem rowScale_apply (w : FVec Ideal S28x8x128 .f32) (s : Fin 8) (u : Fin 1) :
    Spec.rowScale w (ix2 s u) = scaleOf (largest fun i l => w (ix3 i s l)) := by
  exact congrArg scaleOf (largest_apply w s _ _ _ (.inl rfl) rfl u)

/-- The rounded values of a row. -/
theorem quant_apply (w : FVec Ideal S28x8x128 .f32) (i : Fin 28) (s : Fin 8) (l : Fin 128) :
    Spec.quant w (ix3 i s l) = rounded (w (ix3 i s l)) (scaleOf (largest fun i l => w (ix3 i s l))) := by
  unfold Spec.quant
  rw [minimumf_apply, maximumf_apply]
  show min _ (max _ (Ideal.liftRound Ideal.roundHalfEven (divf w _ (ix3 i s l)))) = _
  rw [divf_apply, broadcastTo_apply _ _ (ix3 i s l) (ix3 (0 : Fin 1) s (0 : Fin 1)) (fun c => match c with | ⟨0, _⟩ => rfl | ⟨1, _⟩ => rfl | ⟨2, _⟩ => rfl),
    shapeCast_apply _ _ (ix3 (0 : Fin 1) s (0 : Fin 1)) (ix2 s (0 : Fin 1)) (by
      rw [Shape.rowMajor_val_two, Shape.rowMajor_val_three]
      show s.val * 1 + 0 = (0 * 8 + s.val) * 1 + 0
      omega), rowScale_apply]
  rfl

/-- Row `8 g + s` of the scaled rotation of 32 rows. -/
def scaledRow (u : FVec Ideal S224x512 .f32) (g : Fin 4) (s : Fin 8) (i : Fin 28) (l : Fin 128) : EReal :=
  u (ix2 (mix 224 i s) (mix 512 g l)) * Ideal.ofBits .f32 0x3C88D677#32

theorem part_apply (u : FVec Ideal S224x512 .f32) (g : Fin 4) (i : Fin 28) (s : Fin 8) (l : Fin 128) :
    Spec.part u g (ix3 i s l) = scaledRow u g s i l := by
  unfold Spec.part
  rw [shapeCast_apply _ _ (ix3 i s l) (ix2 (mix 224 i s : Fin 224) l) (by
    rw [Shape.rowMajor_val_two, Shape.rowMajor_val_three]
    show (8 * i.val + s.val) * 128 + l.val = (i.val * 8 + s.val) * 128 + l.val
    omega)]
  refine (slice2_apply (m := 224) (n := 512) (m' := 224) (n' := 128) 0 _ _ _ _ l (mix 224 i s) (mix 512 g l) (by simp) (by simp)).trans ?_
  rfl

/-- A row's codes in group `i`. -/
theorem code_apply (u : FVec Ideal S224x512 .f32) (i : Fin 28) (g : Fin 4) (s : Fin 8) (l : Fin 128) :
    Spec.code u i (ix2 (mix 32 g s) l) = rounded (scaledRow u g s i l) (scaleOf (largest (scaledRow u g s))) := by
  unfold Spec.code
  refine (stack_rows (n := 4) (r := 8) (w := 128) _ rfl _ _ _ _).trans ?_
  rw [shapeCast_apply _ _ (ix2 s l) (ix3 (0 : Fin 1) s l) (by
    rw [Shape.rowMajor_val_two, Shape.rowMajor_val_three]
    show (0 * 8 + s.val) * 128 + l.val = s.val * 128 + l.val
    omega)]
  rw [extractStridedSlice_apply _ _ _ (ix3 (0 : Fin 1) s l) (ix3 i s l) (fun c => match c with | ⟨0, _⟩ => rfl | ⟨1, _⟩ => (Nat.zero_add _).symm | ⟨2, _⟩ => (Nat.zero_add _).symm)]
  rw [quant_apply, part_apply]
  simp only [part_apply]

/-- A row's scale, in every lane. -/
theorem scale_apply (u : FVec Ideal S224x512 .f32) (g : Fin 4) (s : Fin 8) (l : Fin 128) :
    Spec.scale u (ix2 (mix 32 g s) l) = scaleOf (largest (scaledRow u g s)) := by
  unfold Spec.scale
  refine (stack_rows (n := 4) (r := 8) (w := 128) _ rfl _ _ _ _).trans ?_
  rw [broadcastTo_apply _ _ (ix2 s l) (ix2 s (0 : Fin 1)) (fun c => match c with | ⟨0, _⟩ => rfl | ⟨1, _⟩ => rfl), shapeCast_self, rowScale_apply]
  simp only [part_apply]

/-- The product of a tile with 512 columns of the weight. -/
theorem product_apply (q : Vec Ideal S256x3584 .bf16) (w : Vec Ideal S3584x512 .bf16) (xs : Vec Ideal S256x128 .f32) (ws : Vec Ideal S1x512 .f32)
    (r : Fin 256) (g : Fin 4) (l : Fin 128) :
    Spec.product (F := Ideal) q w xs ws (ix2 r (mix 512 g l))
      = (∑ k : Fin 3584, (q (ix2 r k) : EReal) * w (ix2 k (mix 512 g l))) * xs (ix2 r l) * ws (ix2 (0 : Fin 1) (mix 512 g l : Fin 512)) := by
  unfold Spec.product
  rw [truncf_apply, mulf_apply, mulf_apply]
  refine congrArg₂ _ (congrArg₂ _ ?_ ?_) ?_
  · exact matmul_apply (φ₁ := .bf16) (φ₂ := .bf16) (M := 256) (K := 3584) (N := 512) none dot_S256x3584_S3584x512_S256x512_1_0_0_1_n_n rfl _ _ _ _
  · exact stack_cols (n := 4) (r := 256) (w := 128) _ rfl _ _ _ _
  · rw [broadcastTo_apply _ _ (ix2 r (mix 512 g l : Fin 512)) (ix2 (0 : Fin 1) (mix 512 g l : Fin 512)) (fun c => match c with | ⟨0, _⟩ => rfl | ⟨1, _⟩ => rfl), shapeCast_self]

/-- The scales of 128 rows as one row. -/
theorem scaleRow_apply (xs : Vec Ideal S128x128 .f32) (l : Fin 128) :
    Spec.scaleRow (F := Ideal) xs (ix3 (0 : Fin 1) (0 : Fin 1) l) = xs (ix2 l (0 : Fin 128)) := by
  unfold Spec.scaleRow
  rw [shapeCast_apply _ _ (ix3 (0 : Fin 1) (0 : Fin 1) l) (ix2 (0 : Fin 1) l) (by
    rw [Shape.rowMajor_val_two, Shape.rowMajor_val_three]
    show 0 * 128 + l.val = (0 * 1 + 0) * 128 + l.val
    omega)]
  refine (slice2_apply (m := 128) (n := 128) (m' := 1) (n' := 128) 0 0 _ _ _ l (0 : Fin 128) l (by simp) (by simp)).trans ?_
  exact transpose_ix2_apply (a := 128) (b := 128) _ _ _ _

/-- A weight of the block: the word's 4-bit field, moved to the top and back with its sign. -/
theorem weight_apply (w : Vec Ideal S512x448 .i32) (k : Fin 448) (r : Fin 8) (o : Fin 512) :
    Spec.weight w (ix2 (mix 3584 k r) o)
      = (((IntOp.shrsi .vector (IntOp.shli .vector (w (ix2 o k)) (IntOp.subi 28#32 (IntOp.muli 4#32 (BitVec.ofNat 32 r.val)))) 28#32).toInt : ℝ) : EReal) := by
  unfold Spec.weight k0_pay9
  rw [shapeCast_self, sitofp_apply]
  rw [shapeCast_apply _ _ (ix2 (mix 3584 k r : Fin 3584) o) (ix3 k r o) (by
    rw [Shape.rowMajor_val_two, Shape.rowMajor_val_three]
    show (k.val * 8 + r.val) * 512 + o.val = (8 * k.val + r.val) * 512 + o.val
    omega)]
  have e : broadcastTo S448x8x512 (shapeCast S448x1x512 (shapeCast S448x1x512 (transpose S448x512 [1, 0] w transposes_S512x448_p1_0_S448x512)
      shapeCasts_S448x512_S448x1x512) shapeCasts_S448x1x512_S448x1x512) broadcasts_S448x1x512_S448x8x512 (ix3 k r o) = w (ix2 o k) := by
    rw [broadcastTo_apply _ _ (ix3 k r o) (ix3 k (0 : Fin 1) o) (fun c => match c with | ⟨0, _⟩ => rfl | ⟨1, _⟩ => rfl | ⟨2, _⟩ => rfl), shapeCast_self,
      shapeCast_apply _ _ (ix3 k (0 : Fin 1) o) (ix2 k o) (by
        rw [Shape.rowMajor_val_two, Shape.rowMajor_val_three]
        show k.val * 512 + o.val = (k.val * 1 + 0) * 512 + o.val
        omega)]
    exact transpose_ix2_apply (a := 512) (b := 448) _ _ _ _
  show (((IntOp.shrsi .vector (IntOp.shli .vector (broadcastTo S448x8x512 _ _ (ix3 k r o)) (IntOp.subi 28#32 (IntOp.muli 4#32 (BitVec.ofNat 32 (0 * 8 + r.val))))) 28#32).toInt : ℝ) : EReal) = _
  rw [e, Nat.zero_mul, Nat.zero_add]

end Cert.Mean

end
-- ==== Proof.Value.Alike.lean ====
/- Infinities. The kernel splits a value `t` into `t`, `t - t` and the difference of the difference; for an
   infinite `t` these do not add up to `t`, but they are infinite where `t` is. Two rows that agree up to their
   infinities have the same scale and the same codes: the scale of a row with an infinity is infinite, and every
   value over it is zero. -/
module

public import proofs.«01_k».proof.Proof.Value.Quant

@[expose] public section

set_option maxRecDepth 16384

noncomputable section

namespace Cert.Mean

open Idealize.ShloMosaic

/-- An infinity, of either sign. -/
def Infinite (x : EReal) : Prop := x = ⊤ ∨ x = ⊥

/-- Equal, or both infinite. -/
def Alike (x y : EReal) : Prop := x = y ∨ (Infinite x ∧ Infinite y)

theorem Alike.refl (x : EReal) : Alike x x := .inl rfl

theorem infinite_iff (x : EReal) : Infinite x ↔ max x (-x) = ⊤ := by
  unfold Infinite
  induction x with
  | bot => simp
  | top => simp
  | coe r =>
    have h : (r : EReal) ≠ ⊤ := EReal.coe_ne_top r
    have h' : (r : EReal) ≠ ⊥ := EReal.coe_ne_bot r
    rw [← EReal.coe_neg, ← EReal.coe_strictMono.monotone.map_max]
    simp

/-- Values that are alike have the same magnitude. -/
theorem Alike.magnitude {x y : EReal} (h : Alike x y) : max x (-x) = max y (-y) := by
  rcases h with h | ⟨hx, hy⟩
  · rw [h]
  · rw [(infinite_iff x).1 hx, (infinite_iff y).1 hy]

/-- A sum with an infinite term is infinite. -/
theorem Infinite.add_left {x : EReal} (hx : Infinite x) (y : EReal) : Infinite (x + y) := by
  rcases hx with rfl | rfl
  · induction y with
    | bot => exact .inr (by simp)
    | top => exact .inl (by simp)
    | coe r => exact .inl (by simp)
  · exact .inr (by simp)

theorem Infinite.add_right {y : EReal} (hy : Infinite y) (x : EReal) : Infinite (x + y) := by
  rw [add_comm]; exact hy.add_left x

theorem Alike.add {x y x' y' : EReal} (h : Alike x y) (h' : Alike x' y') : Alike (x + x') (y + y') := by
  rcases h with rfl | ⟨hx, hy⟩
  · rcases h' with rfl | ⟨hx', hy'⟩
    · exact .inl rfl
    · exact .inr ⟨hx'.add_right _, hy'.add_right _⟩
  · exact .inr ⟨hx.add_left _, hy.add_left _⟩

theorem Alike.sum {n : Type} (s : Finset n) {f g : n → EReal} (h : ∀ i, Alike (f i) (g i)) : Alike (∑ i ∈ s, f i) (∑ i ∈ s, g i) := by
  classical
  induction s using Finset.induction_on with
  | empty => exact .inl (by simp)
  | insert a s ha ih => rw [Finset.sum_insert ha, Finset.sum_insert ha]; exact (h a).add ih

/-- A multiple of an infinity is infinite, unless it is the zeroth. -/
theorem Infinite.mul {x g : EReal} (hx : Infinite x) (hg : g ≠ 0) : Infinite (g * x) := by
  rcases lt_or_gt_of_ne hg with h | h
  · rcases hx with rfl | rfl
    · exact .inr (EReal.mul_top_of_neg h)
    · exact .inl (EReal.mul_bot_of_neg h)
  · rcases hx with rfl | rfl
    · exact .inl (EReal.mul_top_of_pos h)
    · exact .inr (EReal.mul_bot_of_pos h)

theorem Alike.mul {x y : EReal} (h : Alike x y) (g : EReal) : Alike (g * x) (g * y) := by
  by_cases hg : g = 0
  · subst hg; exact .inl (by simp)
  rcases h with rfl | ⟨hx, hy⟩
  · exact .inl rfl
  · exact .inr ⟨hx.mul hg, hy.mul hg⟩

/-- The multiples of the three parts of a value add up to something like the multiple of the value. -/
theorem parts_alike (g t : EReal) : Alike (g * t + g * (t - t) + g * ((t - t) - (t - t))) (g * t) := by
  by_cases hg : g = 0
  · subst hg; exact .inl (by simp)
  by_cases ht : Infinite t
  · exact .inr ⟨((ht.mul hg).add_left _).add_left _, ht.mul hg⟩
  · induction t with
    | bot => exact absurd (.inr rfl) ht
    | top => exact absurd (.inl rfl) ht
    | coe r =>
      have h0 : (r : EReal) - (r : EReal) = 0 := by rw [← EReal.coe_sub, _root_.sub_self, EReal.coe_zero]
      rw [h0]
      exact .inl (by simp)

section rows
variable {u v : Fin 28 → Fin 128 → EReal} (h : ∀ i l, Alike (u i l) (v i l))
include h

/-- Rows that are alike have the same largest magnitude. -/
theorem largest_alike : largest u = largest v := by
  unfold largest
  simp only [fun i l => (h i l).magnitude]

/-- Rows that are alike have the same codes. -/
theorem rounded_alike (i : Fin 28) (l : Fin 128) : rounded (u i l) (scaleOf (largest u)) = rounded (v i l) (scaleOf (largest v)) := by
  rw [← largest_alike h]
  rcases h i l with e | ⟨hu, hv⟩
  · rw [e]
  have ht : largest u = ⊤ := top_le_iff.1 ((infinite_iff _).1 hu ▸
    (Finset.le_sup (f := fun l => max (u i l) (-(u i l))) (Finset.mem_univ l)).trans
      (Finset.le_sup (f := fun i => Finset.univ.sup fun l => max (u i l) (-(u i l))) (Finset.mem_univ i)))
  have h7 : Ideal.ofBits .f32 0x40E00000#32 = ((7 : ℝ) : EReal) := by
    simp [Ideal.ofBits, Ideal.ieee]
    rw [← EReal.coe_mul]
    norm_num
  have h7i : (0 : EReal) < ((7 : ℝ) : EReal)⁻¹ := by
    rw [← EReal.coe_inv]; exact EReal.coe_pos.2 (by norm_num)
  have hs : scaleOf (largest u) = ⊤ := by
    unfold scaleOf
    rw [ht, h7, Ideal.ofBits_zero_f32]
    have hd : Ideal.div ⊤ ((7 : ℝ) : EReal) = ⊤ := by
      unfold Ideal.div
      rw [if_neg (by norm_num), EReal.top_mul_of_pos h7i]
    rw [hd]
    simp [Ideal.cmp, Scalar.select]
  have hz : ∀ x : EReal, Ideal.div x ⊤ = 0 := fun x => by
    unfold Ideal.div
    rw [if_neg EReal.top_ne_zero, EReal.inv_top, mul_zero]
  rw [hs]
  unfold rounded
  rw [hz, hz]

end rows

end Cert.Mean

end
-- ==== Proof.Value.Rotation.lean ====
/- The rotation of 32 rows: what the two products of the kernel give, row by row. -/
module

public import proofs.«01_k».proof.Proof.Value.Alike

@[expose] public section

set_option maxRecDepth 16384

noncomputable section

namespace Cert.Mean

open Idealize.ShloMosaic Idealize.ShloMosaic.ValueIdx Cert.Index Cert.KernelIdeal Cert.KernelIdeal.Gen

/-- The rotation inside a group: the group's 128 values times the small rotation. -/
def inner (x : Fin 28 → Fin 128 → EReal) (h : Fin 128 → Fin 128 → EReal) (a : Fin 28) (l : Fin 128) : EReal :=
  ∑ j : Fin 128, x a j * h j l

/-- The rotation across the groups. -/
def outer (t : Fin 28 → Fin 128 → EReal) (g : Fin 28 → Fin 28 → EReal) (i : Fin 28) (l : Fin 128) : EReal :=
  ∑ a : Fin 28, g a i * t a l

/-- Two squares side by side, read in one of them. -/
theorem pair_apply {α : Type} (u v : S128x128.Idx → α) (b : Fin 2) (k l : Fin 128) :
    concatenate S128x256 1 [⟨S128x128, u⟩, ⟨S128x128, v⟩] concatenates_S128x128_S128x128_S128x256_d1 (ix2 k (mix 256 b l))
      = if b = 0 then u (ix2 k l) else v (ix2 k l) := by
  rw [concatenate_apply_piece (t := S128x256) 1 _ _ _ b.val (by have := b.isLt; simpa using this) S128x128
    (if b = 0 then u else v) (by fin_cases b <;> rfl) rfl (128 * b.val) (by fin_cases b <;> rfl) (ix2 k l)
    (by intro c hc; match c with | ⟨0, _⟩ => rfl | ⟨1, _⟩ => exact absurd rfl hc) rfl]
  split <;> rfl

/-- The small rotation twice along the diagonal, read in one of its four blocks. -/
theorem twice_apply (h : Vec Ideal S128x128 .bf16) (b b' : Fin 2) (k l : Fin 128) :
    Spec.twice h (ix2 (mix 256 b k) (mix 256 b' l)) = if b = b' then h (ix2 k l) else 0 := by
  unfold Spec.twice k0_pay2
  rw [shapeCast_self]
  rw [concatenate_apply_piece (t := S256x256) 0 _ _ _ b.val (by have := b.isLt; simpa using this) S128x256
    (if b = 0 then concatenate S128x256 1 [⟨S128x128, h⟩, ⟨S128x128, broadcast S128x128 (Scalar.ofBits (F := Ideal) .bf16 0x0000#16)⟩] concatenates_S128x128_S128x128_S128x256_d1
      else concatenate S128x256 1 [⟨S128x128, broadcast S128x128 (Scalar.ofBits (F := Ideal) .bf16 0x0000#16)⟩, ⟨S128x128, h⟩] concatenates_S128x128_S128x128_S128x256_d1)
    (by fin_cases b <;> rfl) rfl (128 * b.val) (by fin_cases b <;> rfl) (ix2 k (mix 256 b' l))
    (by intro c hc; match c with | ⟨0, _⟩ => exact absurd rfl hc | ⟨1, _⟩ => rfl) rfl]
  have h0 : broadcast S128x128 (Scalar.ofBits (F := Ideal) .bf16 0x0000#16) (ix2 k l) = (0 : EReal) := Ideal.ofBits_zero_bf16
  generalize broadcast S128x128 (Scalar.ofBits (F := Ideal) .bf16 0x0000#16) = z at h0 ⊢
  fin_cases b <;> fin_cases b' <;> simp [pair_apply, h0]

/-- The rotation inside the groups, for the pair `p` of groups, in the group `b` of the pair. -/
theorem first_apply (X : Fin 14 → Vec Ideal S32x256 .bf16) (H : Vec Ideal S256x256 .bf16) (h : Fin 128 → Fin 128 → EReal)
    (hH : ∀ (b b' : Fin 2) (k l : Fin 128), H (ix2 (mix 256 b k) (mix 256 b' l)) = if b = b' then h k l else 0)
    (p : Fin 14) (r : Fin 32) (b : Fin 2) (l : Fin 128) :
    Spec.first (F := Ideal) X H (ix2 (mix 448 p r) (mix 256 b l)) = ∑ k : Fin 128, X p (ix2 r (mix 256 b k)) * h k l := by
  unfold Spec.first
  refine (matmul_apply (φ₁ := .bf16) (φ₂ := .bf16) (M := 448) (K := 256) (N := 256) none dot_S448x256_S256x256_S448x256_1_0_0_1_n_n rfl _ _ _ _).trans ?_
  rw [sum_mix (m := 2) (n := 128) rfl]
  simp only [stack_rows (n := 14) (r := 32) (w := 256), shapeCast_self, hH, mul_ite, mul_zero]
  rw [Finset.sum_comm]
  simp

/-- The rows `8 g + s` of the group `2 p + b`. -/
theorem rows_apply (T : FVec Ideal S448x256 .f32) (g : Fin 4) (p : Fin 14) (b : Fin 2) (s : Fin 8) (l : Fin 128) :
    Spec.rows T g (ix2 (mix 224 (mix 28 p b : Fin 28) s) l) = T (ix2 (mix 448 p (mix 32 g s : Fin 32)) (mix 256 b l)) := by
  unfold Spec.rows
  refine (stack_rows (n := 28) (r := 8) (w := 128) _ rfl _ _ _ _).trans ?_
  refine slice2_apply (m := 448) (n := 256) (m' := 8) (n' := 128) _ _ T _ s l _ _ ?_ ?_
  · have := b.isLt; simp only [mix_val]; omega
  · have := b.isLt; simp only [mix_val]; omega

/-- The three parts of a value: the value itself, and twice its difference with itself. -/
theorem split_apply (d : FVec Ideal S224x128 .f32) (b : Fin 3) (k : Fin 224) (l : Fin 128) :
    Spec.split d (ix2 (mix 672 b k) l) = if b = 0 then d (ix2 k l) else if b = 1 then d (ix2 k l) - d (ix2 k l)
      else (d (ix2 k l) - d (ix2 k l)) - (d (ix2 k l) - d (ix2 k l)) := by
  unfold Spec.split
  rw [concatenate_apply_piece (t := S672x128) 0 _ _ _ b.val (by have := b.isLt; simpa using this) S224x128
    (if b = 0 then d else if b = 1 then subf d d else subf (subf d d) (subf d d))
    (by fin_cases b <;> rfl) rfl (224 * b.val) (by fin_cases b <;> rfl) (ix2 k l)
    (by intro c hc; match c with | ⟨0, _⟩ => exact absurd rfl hc | ⟨1, _⟩ => rfl) rfl]
  split
  · rfl
  · split <;> rfl

/-- The rotation across the groups, of the rows `8 g + s`: up to infinities, the plain sum. -/
theorem second_apply (T : FVec Ideal S448x256 .f32) (K : Vec Ideal S224x672 .bf16) (w : Fin 28 → Fin 28 → EReal)
    (hK : ∀ (i : Fin 28) (s : Fin 8) (b : Fin 3) (a : Fin 28) (s' : Fin 8),
      K (ix2 (mix 224 i s) (mix 672 b (mix 224 a s' : Fin 224))) = if s = s' then w a i else 0)
    (t : Fin 4 → Fin 8 → Fin 28 → Fin 128 → EReal) (ht : ∀ g s p b l, T (ix2 (mix 448 p (mix 32 g s : Fin 32)) (mix 256 b l)) = t g s (mix 28 (p : Fin 14) (b : Fin 2)) l)
    (i : Fin 28) (s : Fin 8) (g : Fin 4) (l : Fin 128) :
    Alike (Spec.second (F := Ideal) T K (ix2 (mix 224 i s) (mix 512 g l))) (outer (t g s) w i l) := by
  have hrows : ∀ (a : Fin 28) (s' : Fin 8), Spec.rows T g (ix2 (mix 224 a s') l) = t g s' a l := by
    intro a s'
    obtain ⟨p, b, rfl⟩ := exists_mix (m := 14) (n := 2) (N := 28) rfl a
    rw [rows_apply, ht]
  have hsplit : ∀ (b : Fin 3) (a : Fin 28) (s' : Fin 8),
      Spec.split (Spec.rows T g) (ix2 (mix 672 b (mix 224 a s' : Fin 224)) l) = if b = 0 then t g s' a l else if b = 1 then t g s' a l - t g s' a l
        else (t g s' a l - t g s' a l) - (t g s' a l - t g s' a l) := by
    intro b a s'
    rw [split_apply, hrows]
  have e : Spec.second (F := Ideal) T K (ix2 (mix 224 i s) (mix 512 g l))
      = ∑ a : Fin 28, (w a i * t g s a l + w a i * (t g s a l - t g s a l) + w a i * ((t g s a l - t g s a l) - (t g s a l - t g s a l))) := by
    unfold Spec.second
    refine (matmul_apply (φ₁ := .bf16) (φ₂ := .bf16) (M := 224) (K := 672) (N := 512) none dot_S224x672_S672x512_S224x512_1_0_0_1_n_n rfl _ _ _ _).trans ?_
    rw [sum_mix (m := 3) (n := 224) rfl]
    simp only [stack_cols (n := 4) (r := 672) (w := 128)]
    simp only [sum_mix (m := 28) (n := 8) (N := 224) rfl, hsplit, hK, ite_mul, zero_mul, Finset.sum_ite_eq, Finset.mem_univ, if_true]
    rw [Fin.sum_univ_three, ← Finset.sum_add_distrib, ← Finset.sum_add_distrib]
    simp
  rw [e]
  exact Alike.sum _ fun a => parts_alike _ _

end Cert.Mean

end
-- ==== Proof.Value.Kron.lean ====
/- The block rotation: the entry of row `8 i + s` and column `8 a + s'` is the rotation's entry of `a` and `i`
   where `s = s'`, and zero elsewhere. -/
module

public import proofs.«01_k».proof.Proof.Value.Index
public import Idealize.ShloMosaic.Lib.Decide

@[expose] public section

set_option maxRecDepth 16384

noncomputable section

namespace Cert.Mean

open Idealize.ShloMosaic Idealize.ShloMosaic.ValueIdx Cert.Index Cert.KernelIdeal Cert.KernelIdeal.Gen

/-- The row's group. -/
theorem group_apply (r : Fin 224) (a : Fin 28) : k0_pay21 (ix2 r a) = BitVec.ofNat 32 (r.val / 8) := by
  have h : ∀ r : Fin 224, k0_pay21 (ix2 r (0 : Fin 28)) = BitVec.ofNat 32 (r.val / 8) := by decide +kernel
  exact h r

/-- The remainder after division by 8, as the kernel computes it. -/
def rem8 (x : BitVec 32) : BitVec 32 :=
  let y : BitVec 32 := Scalar.select (Scalar.cmpi .eq 8#32 0#32) 1#32 8#32
  let r := IntOp.remsi .vector x y
  Scalar.select (IntOp.andi (IntOp.xori (IntOp.cmpi .slt r 0#32) (Scalar.cmpi .slt y 0#32)) (IntOp.cmpi .ne r 0#32)) (IntOp.addi r y) r

theorem rem8_eq (n : Fin 224) : rem8 (BitVec.ofNat 32 n.val) = BitVec.ofNat 32 (n.val % 8) := by
  revert n; decide +kernel

/-- Whether row and column have the same place in their groups. -/
theorem place_apply (r c : Fin 224) : k0_pay23 (ix2 r c) = if r.val % 8 = c.val % 8 then 1#1 else 0#1 := by
  have e : k0_pay23 (ix2 r c) = IntOp.cmpi .eq (rem8 (BitVec.ofNat 32 (0 * 224 + r.val))) (rem8 (BitVec.ofNat 32 (0 * 224 + c.val))) := by
    rfl
  rw [e, Nat.zero_mul, Nat.zero_add, Nat.zero_add, rem8_eq, rem8_eq]
  have h : ∀ a b : Fin 8, IntOp.cmpi .eq (BitVec.ofNat 32 a.val) (BitVec.ofNat 32 b.val) = if a.val = b.val then 1#1 else 0#1 := by decide
  exact h ⟨r.val % 8, Nat.mod_lt _ (by decide)⟩ ⟨c.val % 8, Nat.mod_lt _ (by decide)⟩

/-- Whether `a` is the row's group, as a number. -/
theorem indicator_apply (r : Fin 224) (a : Fin 28) :
    (truncf (F := Ideal) .bf16 (sitofp .f32 (extui 32 (cmpi .eq k0_pay21 (iota .tc S224x28 32 [1] iota_S224x28_d1_w32)) natLt_1_32)) bitsLt_bf16_f32
      : FVec Ideal S224x28 .bf16) (ix2 r a) = if r.val / 8 = a.val then (1 : EReal) else 0 := by
  have e : ∀ i j : Fin 28, (IntOp.cmpi .eq (BitVec.ofNat 32 i.val) (BitVec.ofNat 32 (0 * 28 + j.val))).setWidth 32 = if i.val = j.val then 1#32 else 0#32 := by decide +kernel
  show (((((IntOp.cmpi .eq (k0_pay21 (ix2 r a)) (BitVec.ofNat 32 (0 * 28 + a.val))).setWidth 32).toInt : ℝ) : EReal)) = _
  rw [group_apply]
  have := e ⟨r.val / 8, by have := r.isLt; omega⟩ a
  rw [this]
  show (((if r.val / 8 = a.val then 1#32 else 0#32 : BitVec 32).toInt : ℝ) : EReal) = _
  split <;> simp

/-- The group of place `8 i + s`. -/
theorem mix8_div {m N : Nat} (i : Fin m) (s : Fin 8) (h : m * 8 = N) : (mix N i s h).val / 8 = i.val := by
  have := s.isLt; rw [mix_val]; omega

theorem mix8_mod {m N : Nat} (i : Fin m) (s : Fin 8) (h : m * 8 = N) : (mix N i s h).val % 8 = s.val := by
  have := s.isLt; rw [mix_val]; omega

/-- The rotation with every entry repeated over 8 rows and 8 columns. -/
theorem full_apply (h : Vec Ideal S28x28 .bf16) (i a : Fin 28) (s s' : Fin 8) :
    k0_pay22 k0_pay21 h (ix2 (mix 224 i s) (mix 224 a s')) = h (ix2 a i) := by
  unfold k0_pay22
  refine (matmul_transposed_apply (φ₁ := .bf16) (φ₂ := .bf16) (M := 224) (K := 28) (N := 224) none dot_S224x28_S224x28_S224x224_1_1_0_0_n_n rfl _ _ _ _).trans ?_
  have h1 : ∀ b : Fin 28, (truncf (F := Ideal) .bf16 (matmul (φ₁ := .bf16) (φ₂ := .bf16) dot_S224x28_S28x28_S224x28_1_1_0_0_n_n none
      (truncf (F := Ideal) .bf16 (sitofp .f32 (extui 32 (cmpi .eq k0_pay21 (iota .tc S224x28 32 [1] iota_S224x28_d1_w32)) natLt_1_32)) bitsLt_bf16_f32 : FVec Ideal S224x28 .bf16)
      (h : FVec Ideal S28x28 .bf16) (constant S224x28 .f32 0x00000000#32)) bitsLt_bf16_f32 : FVec Ideal S224x28 .bf16) (ix2 (mix 224 i s) b) = h (ix2 b i) := by
    intro b
    refine (matmul_transposed_apply (φ₁ := .bf16) (φ₂ := .bf16) (M := 224) (K := 28) (N := 28) none dot_S224x28_S28x28_S224x28_1_1_0_0_n_n rfl _ _ _ _).trans ?_
    refine (Finset.sum_congr rfl fun k _ => by rw [indicator_apply, mix8_div]).trans ?_
    simp [← Fin.ext_iff]
  refine (Finset.sum_congr rfl fun k _ => by rw [h1, indicator_apply, mix8_div]).trans ?_
  simp [← Fin.ext_iff]

/-- The block rotation, in each of its three copies. -/
theorem kron_apply (h : Vec Ideal S28x28 .bf16) (i : Fin 28) (s : Fin 8) (b : Fin 3) (a : Fin 28) (s' : Fin 8) :
    Spec.kron h (ix2 (mix 224 i s) (mix 672 b (mix 224 a s' : Fin 224))) = if s = s' then h (ix2 a i) else (0 : EReal) := by
  unfold Spec.kron k0_pay1
  rw [shapeCast_self]
  rw [concatenate_apply_piece (t := S224x672) 1 _ _ _ b.val (by have := b.isLt; simpa using this) S224x224
    (truncf (F := Ideal) .bf16 (select k0_pay23 (k0_pay22 k0_pay21 h) (broadcast S224x224 (Scalar.ofBits .f32 0x00000000#32))) bitsLt_bf16_f32)
    (by fin_cases b <;> rfl) rfl (224 * b.val) (by fin_cases b <;> rfl) (ix2 (mix 224 i s) (mix 224 a s'))
    (by intro c hc; match c with | ⟨0, _⟩ => rfl | ⟨1, _⟩ => exact absurd rfl hc) rfl]
  rw [truncf_apply, select_apply, full_apply, place_apply, mix8_mod, mix8_mod]
  by_cases hs : s = s'
  · subst hs; rw [if_pos rfl, if_pos rfl]; rfl
  · rw [if_neg hs, if_neg (fun e => hs (Fin.ext e))]
    exact Ideal.ofBits_zero_f32

end Cert.Mean

end
-- ==== Proof.Value.Tile.lean ====
/- What the buffers hold after a grid point, entry by entry. -/
module

public import proofs.«01_k».proof.Proof.Value.Kron
public import proofs.«01_k».proof.Proof.Value.Rotation
public import proofs.«01_k».proof.Proof.Value.Quant
public import proofs.«01_k».proof.Proof.Run.Tiles
public import Idealize.ShloMosaic.Lib.Pipeline.ValueKit.Tiles

@[expose] public section

set_option maxRecDepth 16384

noncomputable section

namespace Cert.Mean

open Idealize.ShloMosaic Idealize.ShloMosaic.ValueIdx Cert.Index Cert.KernelIdeal Cert.KernelIdeal.Gen Cert.KernelIdeal.Run

/-- A load of a block reads the array at the block's offset. -/
theorem load_apply {s : Shape} {e : EltTy} (X : s.Idx → Elt Ideal e) (off size : Fin s.rank → Nat) (inb : ∀ a, off a + size a ≤ s.size a)
    (x : (⟨s.rank, size⟩ : Shape).Idx) (y : s.Idx) (h : ∀ a, (y a).val = off a + (x a).val) :
    View.ld (Val := Elt Ideal) X (Rect.unit off size inb) x = X y := by
  refine congrArg X (funext fun a => Fin.ext ?_)
  show off a + 1 * (x a).val = (y a).val
  rw [h a, Nat.one_mul]

theorem hff2Tile_apply (h : Vec Ideal S128x128 .bf16) (b b' : Fin 2) (k l : Fin 128) :
    hff2Tile (F := Ideal) h (ix2 (mix 256 b k) (mix 256 b' l)) = if b = b' then h (ix2 k l) else 0 := by
  unfold hff2Tile hff2Pieces
  rw [View.canon_cons_unit_lit (S := S256x256) _ _ _ (by decide), View.ld_unit_lit (S := S128x128) _ _ (by decide)]
  exact twice_apply h b b' k l

theorem kronTile_apply (h : Vec Ideal S28x28 .bf16) (i : Fin 28) (s : Fin 8) (b : Fin 3) (a : Fin 28) (s' : Fin 8) :
    kronTile (F := Ideal) h (ix2 (mix 224 i s) (mix 672 b (mix 224 a s' : Fin 224))) = if s = s' then h (ix2 a i) else 0 := by
  unfold kronTile kronPieces
  rw [View.canon_cons_unit_lit (S := S224x672) _ _ _ (by decide), View.ld_unit_lit (S := S28x28) _ _ (by decide)]
  exact kron_apply h i s b a s'

/-- A tile's rotation, up to infinities. -/
theorem rotated_apply (x : Vec Ideal S256x3584 .bf16) (hff : Vec Ideal S128x128 .bf16) (h28 : Vec Ideal S28x28 .bf16)
    (c : Fin 8) (i : Fin 28) (s : Fin 8) (g : Fin 4) (l : Fin 128) :
    Alike (rotated (F := Ideal) x (hff2Tile hff) (kronTile h28) c (ix2 (mix 224 i s) (mix 512 g l)))
      (outer (inner (fun a j => x (ix2 (mix 256 c (mix 32 g s : Fin 32)) (mix 3584 a j))) fun j l => hff (ix2 j l)) (fun a i => h28 (ix2 a i)) i l) := by
  unfold rotated
  rw [View.ld_unit_lit (S := S256x256) _ _ (by decide), View.ld_unit_lit (S := S224x672) _ _ (by decide)]
  refine second_apply _ _ (fun a i => h28 (ix2 a i)) (fun i s b a s' => kronTile_apply h28 i s b a s')
    (fun g s => inner (fun a j => x (ix2 (mix 256 c (mix 32 g s : Fin 32)) (mix 3584 a j))) fun j l => hff (ix2 j l)) ?_ i s g l
  · intro g s p b l
    refine (first_apply _ _ (fun j l => hff (ix2 j l)) (fun b b' k l => hff2Tile_apply hff b b' k l) p _ b l).trans ?_
    unfold inner
    refine Finset.sum_congr rfl fun k _ => congrArg (· * (hff (ix2 k l) : EReal)) ?_
    refine load_apply (s := S256x3584) (e := .bf16) x _ _ _ _ _ fun d => ?_
    match d with
    | ⟨0, _⟩ => rfl
    | ⟨1, _⟩ =>
      show 128 * (2 * p.val + b.val) + k.val = 256 * p.val + (128 * b.val + k.val)
      omega

section pieces
variable {e : EltTy} (u : Fin 8 → FVec Ideal S224x512 .f32) (f : FVec Ideal S224x512 .f32 → Fin 28 → S32x128.Idx → Elt Ideal e)

/-- Blocks of 32 by 128 in their order from the last to the first, read in one of them. -/
theorem blocks_apply (c : Fin 8) (r : Fin 32) (i : Fin 28) (l : Fin 128) :
    View.canon (Val := Elt Ideal) (List.ofFn fun k : Fin 224 => (⟨Rect.unit ![32 * (chunkOf k).val, 128 * (groupOf k).val] S32x128.size (inb_code (chunkOf k) (groupOf k)),
        f (u (chunkOf k)) (groupOf k)⟩ : View.Piece (Elt Ideal) S256x3584 e)) (ix2 (mix 256 c r) (mix 3584 i l)) = f (u c) i (ix2 r l) := by
  refine View.canon_ofFn_unit_eq_of_forall (S := S256x3584) (fun k : Fin 224 => ![32 * (chunkOf k).val, 128 * (groupOf k).val]) S32x128.size _
    (fun k => f (u (chunkOf k)) (groupOf k)) _ _ ?_ ?_
  · refine ⟨⟨223 - (28 * c.val + i.val), by omega⟩, fun a => ?_⟩
    have hc := c.isLt; have hi := i.isLt; have hr := r.isLt; have hl := l.isLt
    match a with
    | ⟨0, _⟩ =>
      show 32 * ((223 - (223 - (28 * c.val + i.val))) / 28) ≤ 32 * c.val + r.val ∧ 32 * c.val + r.val < 32 * ((223 - (223 - (28 * c.val + i.val))) / 28) + 32
      omega
    | ⟨1, _⟩ =>
      show 128 * ((223 - (223 - (28 * c.val + i.val))) % 28) ≤ 128 * i.val + l.val ∧ 128 * i.val + l.val < 128 * ((223 - (223 - (28 * c.val + i.val))) % 28) + 128
      omega
  · intro k x hx
    have h0 : 32 * c.val + r.val = 32 * (chunkOf k).val + (x 0).val := hx 0
    have h1 : 128 * i.val + l.val = 128 * (groupOf k).val + (x 1).val := hx 1
    have x0 : (x 0).val < 32 := (x 0).isLt
    have x1 : (x 1).val < 128 := (x 1).isLt
    have hr := r.isLt; have hl := l.isLt
    have ec : chunkOf k = c := Fin.ext (by omega)
    have ei : groupOf k = i := Fin.ext (by omega)
    have ex : x = ix2 r l := by
      funext a
      match a with
      | ⟨0, _⟩ => exact Fin.ext (show (x 0).val = r.val by omega)
      | ⟨1, _⟩ => exact Fin.ext (show (x 1).val = l.val by omega)
    rw [ec, ei, ex]

end pieces

variable (u : Fin 8 → FVec Ideal S224x512 .f32)

/-- A tile's code. -/
theorem codeTile_apply (c : Fin 8) (g : Fin 4) (s : Fin 8) (i : Fin 28) (l : Fin 128) :
    codeTile (F := Ideal) u (ix2 (mix 256 c (mix 32 g s : Fin 32)) (mix 3584 i l))
      = Ideal.fptosi 8 (rounded (scaledRow (u c) g s i l) (scaleOf (largest (scaledRow (u c) g s)))) := by
  refine (blocks_apply (e := .i8) u (fun u i => fptosi 8 (Spec.code u i)) c _ i l).trans ?_
  exact congrArg (Ideal.fptosi 8) (code_apply (u c) i g s l)

/-- A tile's code as operand of the product. -/
theorem lhsTile_apply (c : Fin 8) (g : Fin 4) (s : Fin 8) (i : Fin 28) (l : Fin 128) :
    lhsTile (F := Ideal) u (ix2 (mix 256 c (mix 32 g s : Fin 32)) (mix 3584 i l))
      = rounded (scaledRow (u c) g s i l) (scaleOf (largest (scaledRow (u c) g s))) := by
  refine (blocks_apply (e := .bf16) u (fun u i => shapeCast S32x128 (truncf .bf16 (Spec.code u i) (by decide)) (by decide)) c _ i l).trans ?_
  rw [shapeCast_self]
  exact code_apply (u c) i g s l

theorem exists_back (k : Fin 8) : back (back k) = k := Fin.ext (show 7 - (7 - k.val) = k.val by have := k.isLt; omega)

/-- A tile's scale, in any lane. -/
theorem xsTile_apply (c : Fin 8) (g : Fin 4) (s : Fin 8) (l : Fin 128) :
    xsTile (F := Ideal) u (ix2 (mix 256 c (mix 32 g s : Fin 32)) l) = scaleOf (largest (scaledRow (u c) g s)) := by
  refine View.canon_ofFn_unit_eq_of_forall (Val := Elt Ideal) (e := .f32) (S := S256x128) (fun k : Fin 8 => ![32 * (back k).val, 0]) S32x128.size _
    (fun k => shapeCast (s := S32x128) S32x128 (Spec.scale (u (back k))) (by decide)) _ _ ?_ ?_
  · refine ⟨back c, fun a => ?_⟩
    rw [exists_back]
    have hr := (mix 32 g s : Fin 32).isLt; have hl := l.isLt
    match a with
    | ⟨0, _⟩ =>
      show 32 * c.val ≤ 32 * c.val + (mix 32 g s : Fin 32).val ∧ 32 * c.val + (mix 32 g s : Fin 32).val < 32 * c.val + 32
      omega
    | ⟨1, _⟩ =>
      show 0 ≤ l.val ∧ l.val < 0 + 128
      omega
  · intro k x hx
    have h0 : 32 * c.val + (mix 32 g s : Fin 32).val = 32 * (back k).val + (x 0).val := hx 0
    have h1 : l.val = 0 + (x 1).val := hx 1
    have x0 : (x 0).val < 32 := (x 0).isLt
    have hr := (mix 32 g s : Fin 32).isLt
    have ec : back k = c := Fin.ext (by omega)
    have ex : x = ix2 (mix 32 g s : Fin 32) l := by
      funext a
      match a with
      | ⟨0, _⟩ => exact Fin.ext (show (x 0).val = (mix 32 g s : Fin 32).val by omega)
      | ⟨1, _⟩ => exact Fin.ext (show (x 1).val = l.val by omega)
    rw [ec, ex, shapeCast_self]
    exact scale_apply (u c) g s l

/-- The written scales are the lanes' first, 128 rows in a row. -/
theorem scaleTile_apply (r : Fin 2) (l : Fin 128) :
    scaleTile (F := Ideal) u (ix3 (0 : Fin 1) r l) = xsTile (F := Ideal) u (ix2 (mix 256 r l) (0 : Fin 128)) := by
  refine View.canon_ofFn_unit_eq_of_forall (Val := Elt Ideal) (e := .f32) (S := S1x2x128) (fun k : Fin 2 => ![0, 1 - k.val, 0]) S1x1x128.size
    (fun k => inb_row ⟨1 - k.val, by omega⟩)
    (fun k => Spec.scaleRow (F := Ideal) (View.ld (xsTile u) (Rect.unit (s := S256x128) ![128 * (1 - k.val), 0] S128x128.size (inb_xs128 ⟨1 - k.val, by omega⟩)))) _ _ ?_ ?_
  · refine ⟨⟨1 - r.val, by omega⟩, fun a => ?_⟩
    have hr := r.isLt; have hl := l.isLt
    match a with
    | ⟨0, _⟩ => show 0 ≤ 0 ∧ 0 < 0 + 1; omega
    | ⟨1, _⟩ => show 1 - (1 - r.val) ≤ r.val ∧ r.val < 1 - (1 - r.val) + 1; omega
    | ⟨2, _⟩ => show 0 ≤ l.val ∧ l.val < 0 + 128; omega
  · intro k x hx
    have h1 : r.val = (1 - k.val) + (x 1).val := hx 1
    have h2 : l.val = 0 + (x 2).val := hx 2
    have x0 : (x 0).val < 1 := (x 0).isLt
    have x1 : (x 1).val < 1 := (x 1).isLt
    have ex : x = ix3 (0 : Fin 1) (0 : Fin 1) l := by
      funext a
      match a with
      | ⟨0, _⟩ => exact Fin.ext (show (x 0).val = 0 by omega)
      | ⟨1, _⟩ => exact Fin.ext (show (x 1).val = 0 by omega)
      | ⟨2, _⟩ => exact Fin.ext (show (x 2).val = l.val by omega)
    rw [ex]
    refine (scaleRow_apply _ l).trans (load_apply (s := S256x128) (e := .f32) _ _ _ _ _ _ fun d => ?_)
    match d with
    | ⟨0, _⟩ => show 128 * r.val + l.val = 128 * (1 - k.val) + l.val; omega
    | ⟨1, _⟩ => rfl

/-- A block of 512 columns in order from the last to the first, read in one of them. -/
theorem columns_apply {e : EltTy} {M : Nat} (P : Fin 8 → (⟨2, ![M, 512]⟩ : Shape).Idx → Elt Ideal e)
    (inb : ∀ k : Fin 8, ∀ a, (![0, 512 * k.val] : Fin 2 → Nat) a + (![M, 512] : Fin 2 → Nat) a ≤ (⟨2, ![M, 4096]⟩ : Shape).size a)
    (r : Fin M) (b : Fin 8) (o : Fin 512) :
    View.canon (Val := Elt Ideal) (List.ofFn fun k : Fin 8 => (⟨Rect.unit ![0, 512 * (back k).val] ![M, 512] (inb (back k)), P (back k)⟩
      : View.Piece (Elt Ideal) ⟨2, ![M, 4096]⟩ e)) (ix2 r (mix 4096 b o)) = P b (ix2 r o) := by
  refine View.canon_ofFn_unit_eq_of_forall (S := ⟨2, ![M, 4096]⟩) (fun k : Fin 8 => ![0, 512 * (back k).val]) ![M, 512] _
    (fun k => P (back k)) _ _ ?_ ?_
  · refine ⟨back b, fun a => ?_⟩
    rw [exists_back]
    have hr := r.isLt; have ho := o.isLt
    match a with
    | ⟨0, _⟩ => show 0 ≤ r.val ∧ r.val < 0 + M; omega
    | ⟨1, _⟩ => show 512 * b.val ≤ 512 * b.val + o.val ∧ 512 * b.val + o.val < 512 * b.val + 512; omega
  · intro k x hx
    have h0 : r.val = 0 + (x 0).val := hx 0
    have h1 : 512 * b.val + o.val = 512 * (back k).val + (x 1).val := hx 1
    have x1 : (x 1).val < 512 := (x 1).isLt
    have ho := o.isLt
    have ec : back k = b := Fin.ext (by omega)
    have ex : x = ix2 r o := by
      funext a
      match a with
      | ⟨0, _⟩ => exact Fin.ext (show (x 0).val = r.val by omega)
      | ⟨1, _⟩ => exact Fin.ext (show (x 1).val = o.val by omega)
    rw [ec, ex]

/-- The 4-bit field `r` of a word, moved to the top and back with its sign. -/
def field (w : BitVec 32) (r : Fin 8) : EReal :=
  (((IntOp.shrsi .vector (IntOp.shli .vector w (IntOp.subi 28#32 (IntOp.muli 4#32 (BitVec.ofNat 32 r.val)))) 28#32).toInt : ℝ) : EReal)

/-- The whole weight. -/
theorem wTile_apply (wq : Vec Ideal S4096x448 .i32) (k : Fin 448) (r : Fin 8) (o : Fin 4096) :
    wTile (F := Ideal) wq (ix2 (mix 3584 k r) o) = field (wq (ix2 o k)) r := by
  obtain ⟨b, o, rfl⟩ := exists_mix (m := 8) (n := 512) rfl o
  refine (columns_apply (e := .bf16) (M := 3584) (fun k => Spec.weight (View.ld wq (Rect.unit (s := S4096x448) ![512 * k.val, 0] S512x448.size (inb_wq k))))
    inb_w _ b o).trans ?_
  refine (weight_apply _ k r o).trans ?_
  rw [load_apply (s := S4096x448) (e := .i32) wq ![512 * b.val, 0] S512x448.size (inb_wq b) (ix2 o k) (ix2 (mix 4096 b o : Fin 4096) k)
    (fun d => match d with | ⟨0, _⟩ => rfl | ⟨1, _⟩ => (Nat.zero_add _).symm)]
  rfl

/-- The product of a tile with the whole weight. -/
theorem yTile_apply (q : Vec Ideal S256x3584 .bf16) (w : Vec Ideal S3584x4096 .bf16) (xs : Vec Ideal S256x128 .f32) (ws : Vec Ideal S1x4096 .f32)
    (r : Fin 256) (o : Fin 4096) (S : EReal) (hS : ∀ l : Fin 128, xs (ix2 r l) = S) :
    yTile (F := Ideal) q w xs ws (ix2 r o) = (∑ k : Fin 3584, (q (ix2 r k) : EReal) * w (ix2 k o)) * S * ws (ix2 (0 : Fin 1) o) := by
  obtain ⟨b, o, rfl⟩ := exists_mix (m := 8) (n := 512) rfl o
  refine (columns_apply (e := .bf16) (M := 256) (fun k => Spec.product (F := Ideal) (View.ld q (Rect.unit ![0, 0] S256x3584.size inb_S256x3584_S256x3584_0_0))
    (View.ld w (Rect.unit (s := S3584x4096) ![0, 512 * k.val] S3584x512.size (inb_w k)))
    (View.ld xs (Rect.unit ![0, 0] S256x128.size inb_S256x128_S256x128_0_0))
    (View.ld ws (Rect.unit (s := S1x4096) ![0, 512 * k.val] S1x512.size (inb_ws k)))) inb_y r b o).trans ?_
  obtain ⟨g, l, rfl⟩ := exists_mix (m := 4) (n := 128) rfl o
  refine (product_apply _ _ _ _ r g l).trans ?_
  rw [View.ld_unit_lit (S := S256x3584) _ _ (by decide), View.ld_unit_lit (S := S256x128) _ _ (by decide), hS]
  refine congrArg₂ _ (congrArg₂ _ (Finset.sum_congr rfl fun k _ => congrArg (fun z : EReal => (q (ix2 r k) : EReal) * z) ?_) rfl) ?_
  · exact load_apply (s := S3584x4096) (e := .bf16) w _ _ _ _ _ fun d => match d with | ⟨0, _⟩ => (Nat.zero_add _).symm | ⟨1, _⟩ => rfl
  · exact load_apply (s := S1x4096) (e := .f32) ws _ _ _ _ _ fun d => match d with | ⟨0, _⟩ => rfl | ⟨1, _⟩ => rfl

end Cert.Mean

end
-- ==== Proof.Value.Mean.lean ====
/- What the kernel and the reference compute, as a function of the five arguments: a token's 3584 values are
   rotated (28 groups of 128), scaled by a seventh of their largest magnitude, rounded, and multiplied with the
   4-bit weight. -/
module

public import proofs.«01_k».proof.Proof.Value.Rotation
public import proofs.«01_k».proof.Proof.Value.Quant
public import proofs.«01_k».proof.Proof.Value.Tile

@[expose] public section

set_option maxRecDepth 16384

noncomputable section

namespace Cert.Mean

open Idealize.ShloMosaic Idealize.ShloMosaic.ValueIdx Cert.Index Cert.KernelIdeal

variable (X : Vec Ideal S12x1152x3584 .bf16) (G : Vec Ideal S28x28 .bf16) (H : Vec Ideal S128x128 .bf16)
  (Q : Vec Ideal S4096x448 .i32) (S : Vec Ideal S4096 .f32)

/-- Token `p`'s values, in groups of 128. -/
def token (p : Fin 13824) (a : Fin 28) (j : Fin 128) : EReal :=
  X (ix3 (⟨p.val / 1152, by have := p.isLt; omega⟩ : Fin 12) (⟨p.val % 1152, Nat.mod_lt _ (by decide)⟩ : Fin 1152) (mix 3584 a j : Fin 3584))

/-- Token `p`, rotated. -/
def turned (p : Fin 13824) (i : Fin 28) (l : Fin 128) : EReal :=
  outer (inner (token X p) fun j l => H (ix2 j l)) (fun a i => G (ix2 a i)) i l * Ideal.ofBits .f32 0x3C88D677#32

/-- Token `p`'s scale. -/
def scaleAt (p : Fin 13824) : EReal := scaleOf (largest (turned X G H p))

/-- Token `p`'s rounded values. -/
def codeAt (p : Fin 13824) (k : Fin 3584) : EReal :=
  rounded (turned X G H p ⟨k.val / 128, by have := k.isLt; omega⟩ ⟨k.val % 128, Nat.mod_lt _ (by decide)⟩) (scaleAt X G H p)

/-- The weight from value `k` to result `o`. -/
def weightAt (k : Fin 3584) (o : Fin 4096) : EReal :=
  field (Q (ix2 o (⟨k.val / 8, by have := k.isLt; omega⟩ : Fin 448))) ⟨k.val % 8, Nat.mod_lt _ (by decide)⟩

/-- The product. -/
def result0 : Vec Ideal S13824x4096 .bf16 := fun j =>
  (∑ k : Fin 3584, codeAt X G H (j 0) k * weightAt Q k (j 1)) * scaleAt X G H (j 0) * (S (ix1 (j 1)) : EReal)

/-- The codes. -/
def result1 : Vec Ideal S13824x3584 .i8 := fun j => Ideal.fptosi 8 (codeAt X G H (j 0) (j 1))

/-- The scales, 256 to a tile. -/
def result2 : Vec Ideal S54x2x128 .f32 := fun j => scaleAt X G H (mix 13824 (j 0 : Fin 54) (mix 256 (j 1 : Fin 2) (j 2 : Fin 128) : Fin 256))

theorem codeAt_mix (p : Fin 13824) (i : Fin 28) (l : Fin 128) :
    codeAt X G H p (mix 3584 i l) = rounded (turned X G H p i l) (scaleAt X G H p) := by
  unfold codeAt
  have hl := l.isLt
  congr 2 <;> exact Fin.ext (by simp only [mix_val]; omega)

theorem weightAt_mix (k : Fin 448) (r : Fin 8) (o : Fin 4096) : weightAt Q (mix 3584 k r) o = field (Q (ix2 o k)) r := by
  have h1 : (⟨(mix 3584 k r : Fin 3584).val / 8, by have := (mix 3584 k r : Fin 3584).isLt; omega⟩ : Fin 448) = k :=
    Fin.ext (by have := r.isLt; simp only [mix_val]; omega)
  have h2 : (⟨(mix 3584 k r : Fin 3584).val % 8, Nat.mod_lt _ (by decide)⟩ : Fin 8) = r :=
    Fin.ext (by have := r.isLt; simp only [mix_val]; omega)
  unfold weightAt
  rw [h1, h2]

end Cert.Mean

end
-- ==== Proof.Value.Arrays.lean ====
/- What the kernel's three arrays hold after the run. -/
module

public import proofs.«01_k».proof.Proof.Value.Mean
public import proofs.«01_k».proof.Proof.Run.Data
public import Idealize.ShloMosaic.Lib.Pipeline.ValueKit.Geometry
public import Idealize.ShloMosaic.Lib.Claim

@[expose] public section

set_option maxRecDepth 16384

noncomputable section

namespace Cert.Mean

open Idealize.ShloMosaic Idealize.ShloMosaic.TcCoe Idealize.ShloMosaic.ValueIdx Cert.Index Cert.KernelIdeal Cert.KernelIdeal.Gen Cert.KernelIdeal.Run

variable (m : (ℓ : Loc nD τ sig) → Buf (Elt Ideal) ℓ) (c : Dev nD)

/-- The five arguments as launched. -/
abbrev argX : Vec Ideal S12x1152x3584 .bf16 := m ((c : Thread nD τ).loc main_arg0)
abbrev argG : Vec Ideal S28x28 .bf16 := m ((c : Thread nD τ).loc main_arg1)
abbrev argH : Vec Ideal S128x128 .bf16 := m ((c : Thread nD τ).loc main_arg2)
abbrev argQ : Vec Ideal S4096x448 .i32 := m ((c : Thread nD τ).loc main_arg3)
abbrev argS : Vec Ideal S4096 .f32 := m ((c : Thread nD τ).loc main_arg4)

theorem index_0 : ∀ t : Fin cfg0.N, win0_0.index t = ![min t.val 53, 0] :=
  (by decide +kernel : ∀ t : Fin grid0.N, win0_0.index t = ![min t.val 53, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![0, 0] :=
  (by decide +kernel : ∀ t : Fin grid0.N, win0_4.index t = ![0, 0])
theorem index_5 : ∀ t : Fin cfg0.N, win0_5.index t = ![t.val - 1, 0] :=
  (by decide +kernel : ∀ t : Fin grid0.N, win0_5.index t = ![t.val - 1, 0])
theorem index_6 : ∀ t : Fin cfg0.N, win0_6.index t = ![min t.val 53, 0] :=
  (by decide +kernel : ∀ t : Fin grid0.N, win0_6.index t = ![min t.val 53, 0])
theorem index_7 : ∀ t : Fin cfg0.N, win0_7.index t = ![min t.val 53, 0, 0] :=
  (by decide +kernel : ∀ t : Fin grid0.N, win0_7.index t = ![min t.val 53, 0, 0])

theorem block_1 (t : Fin cfg0.N) : (iblk m c 1 t : Vec Ideal S28x28 .bf16) = argG m c := by
  funext y
  blk_simp [iblk]
  rw [V_main_arg1]
  exact congrArg _ (by blk_ext [index_1])

theorem block_2 (t : Fin cfg0.N) : (iblk m c 2 t : Vec Ideal S128x128 .bf16) = argH m c := by
  funext y
  blk_simp [iblk]
  rw [V_main_arg2]
  exact congrArg _ (by blk_ext [index_2])

theorem block_3 (t : Fin cfg0.N) : (iblk m c 3 t : Vec Ideal S4096x448 .i32) = argQ m c := by
  funext y
  blk_simp [iblk]
  rw [V_main_arg3]
  exact congrArg _ (by blk_ext [index_3])

theorem block_4 (t : Fin cfg0.N) (o : Fin 4096) : (iblk m c 4 t : Vec Ideal S1x4096 .f32) (ix2 (0 : Fin 1) o) = (argS m c) (ix1 o) := by
  blk_simp [iblk]
  entry_read
  refine shapeCast_apply _ _ _ _ ?_
  refine (Shape.rowMajor_val_one (d := ![4096]) _).trans ((Shape.rowMajor_val_two (d := ![1, 4096]) _).trans ?_).symm
  blk_simp [index_4]

theorem block_0 (t : Fin cfg0.N) (r : Fin 256) (a : Fin 28) (j : Fin 128) :
    (iblk m c 0 t : Vec Ideal S256x3584 .bf16) (ix2 r (mix 3584 a j)) = token (argX m c) (mix 13824 (⟨min t.val 53, by omega⟩ : Fin 54) r) a j := by
  blk_simp [iblk]
  entry_read
  refine shapeCast_apply _ _ _ _ ?_
  refine (Shape.rowMajor_val_three (d := ![12, 1152, 3584]) _).trans ((Shape.rowMajor_val_two (d := ![13824, 3584]) _).trans ?_).symm
  blk_simp [index_0]
  show (min t.val 53 * 256 + r.val) * 3584 + (128 * a.val + j.val) = ((256 * min t.val 53 + r.val) / 1152 * 1152 + (256 * min t.val 53 + r.val) % 1152) * 3584 + (128 * a.val + j.val)
  omega

/-- Tile `n`'s first row, in the array. -/
def tileRow (n : ℕ) (r : Fin 256) : Fin 13824 := mix 13824 (⟨min n 53, by omega⟩ : Fin 54) r

/-- A row of a rotated tile is its token, rotated, up to infinities. -/
theorem rot_row (n : ℕ) (C : Fin 8) (g : Fin 4) (s : Fin 8) (i : Fin 28) (l : Fin 128) :
    Alike (scaledRow (rot m c n C) g s i l) (turned (argX m c) (argG m c) (argH m c) (tileRow n (mix 256 C (mix 32 g s : Fin 32))) i l) := by
  unfold scaledRow turned rot hff2All kronAll
  rw [block_1, block_2]
  have hb : ∀ (r : Fin 256) (a : Fin 28) (j : Fin 128),
      (iblk m c 0 (pt n) : Vec Ideal S256x3584 .bf16) (ix2 r (mix 3584 a j)) = token (argX m c) (tileRow n r) a j := fun r a j => by
    rw [block_0]
    exact congrArg (fun p => token (argX m c) p a j) (Fin.ext (show 256 * min (min n 53) 53 + r.val = 256 * min n 53 + r.val by omega))
  have h := rotated_apply (iblk m c 0 (pt n)) (argH m c) (argG m c) C i s g l
  simp only [hb] at h
  rw [mul_comm, mul_comm (outer _ _ _ _)]
  exact h.mul _

/-- The scale of a row of a rotated tile is its token's. -/
theorem rot_scale (n : ℕ) (C : Fin 8) (g : Fin 4) (s : Fin 8) :
    scaleOf (largest (scaledRow (rot m c n C) g s)) = scaleAt (argX m c) (argG m c) (argH m c) (tileRow n (mix 256 C (mix 32 g s : Fin 32))) :=
  congrArg scaleOf (largest_alike (rot_row m c n C g s))

/-- The codes of a row of a rotated tile are its token's. -/
theorem rot_code (n : ℕ) (C : Fin 8) (g : Fin 4) (s : Fin 8) (i : Fin 28) (l : Fin 128) :
    rounded (scaledRow (rot m c n C) g s i l) (scaleOf (largest (scaledRow (rot m c n C) g s)))
      = codeAt (argX m c) (argG m c) (argH m c) (tileRow n (mix 256 C (mix 32 g s : Fin 32))) (mix 3584 i l) :=
  (rounded_alike (rot_row m c n C g s) i l).trans (codeAt_mix ..).symm

/-- The scale of a row in a later point's scratch. -/
theorem xsAt_row (n : ℕ) (r : Fin 256) (l : Fin 128) :
    xsAt m c n (ix2 r l) = scaleAt (argX m c) (argG m c) (argH m c) (tileRow n r) := by
  obtain ⟨C, r, rfl⟩ := exists_mix (m := 8) (n := 32) (N := 256) rfl r
  obtain ⟨g, s, rfl⟩ := exists_mix (m := 4) (n := 8) (N := 32) rfl r
  unfold xsAt
  rw [← rot_scale m c n C g s]
  exact xsTile_apply (rot m c n) C g s l

/-- The codes of a row in a later point's scratch. -/
theorem lhsAt_row (n : ℕ) (r : Fin 256) (k : Fin 3584) :
    lhsAt m c n (ix2 r k) = codeAt (argX m c) (argG m c) (argH m c) (tileRow n r) k := by
  obtain ⟨C, r, rfl⟩ := exists_mix (m := 8) (n := 32) (N := 256) rfl r
  obtain ⟨g, s, rfl⟩ := exists_mix (m := 4) (n := 8) (N := 32) rfl r
  obtain ⟨i, l, rfl⟩ := exists_mix (m := 28) (n := 128) (N := 3584) rfl k
  unfold lhsAt
  rw [← rot_code m c n C g s]
  exact lhsTile_apply (rot m c n) C g s i l

/-- The codes of a tile. -/
theorem codeTile_row (n : ℕ) (r : Fin 256) (k : Fin 3584) :
    codeTile (rot m c n) (ix2 r k) = Ideal.fptosi 8 (codeAt (argX m c) (argG m c) (argH m c) (tileRow n r) k) := by
  obtain ⟨C, r, rfl⟩ := exists_mix (m := 8) (n := 32) (N := 256) rfl r
  obtain ⟨g, s, rfl⟩ := exists_mix (m := 4) (n := 8) (N := 32) rfl r
  obtain ⟨i, l, rfl⟩ := exists_mix (m := 28) (n := 128) (N := 3584) rfl k
  rw [← rot_code m c n C g s]
  exact codeTile_apply (rot m c n) C g s i l

/-- The scales of a tile, two rows of 128. -/
theorem scaleTile_row (n : ℕ) (r : Fin 2) (l : Fin 128) :
    scaleTile (rot m c n) (ix3 (0 : Fin 1) r l) = scaleAt (argX m c) (argG m c) (argH m c) (tileRow n (mix 256 r l)) :=
  (scaleTile_apply (rot m c n) r l).trans (xsAt_row m c n _ _)

/-- The weight as the first point leaves it. -/
theorem wAll_apply (k : Fin 3584) (o : Fin 4096) : wAll m c (ix2 k o) = weightAt (argQ m c) k o := by
  obtain ⟨k, r, rfl⟩ := exists_mix (m := 448) (n := 8) (N := 3584) rfl k
  rw [weightAt_mix]
  unfold wAll
  rw [block_3]
  exact wTile_apply _ k r o

/-- The first array holds the product. -/
theorem final_0 : (dats m 0 c).arrAt 5 cfg0.N = result0 (argX m c) (argG m c) (argH m c) (argQ m c) (argS m c) := by
  refine (dats m 0 c).arrAt_eq_of_covers 5 _ (by decide +kernel) fun t hf y => ?_
  have ht : t.val ≠ 0 := by rw [flush_5] at hf; simpa using hf
  have htN : t.val < 55 := lt_of_lt_of_eq t.isLt N_0
  blk_simp
  rw [after_5]
  obtain ⟨r, o, rfl⟩ : ∃ (r : Fin 256) (o : Fin 4096), y = ix2 r o := ⟨y 0, y 1, eq_ix2 y⟩
  refine (yTile_apply _ _ _ _ r o _ (xsAt_row m c (t.val - 1) r)).trans ?_
  rw [block_4]
  simp only [lhsAt_row m c, wAll_apply m c]
  have e0 : (((cfg0.win 5).blk t).view.emb (ix2 r o) 0 : Fin 13824) = tileRow (t.val - 1) r := Fin.ext (by
    blk_simp [index_5]
    show (t.val - 1) * 256 + r.val = 256 * min (t.val - 1) 53 + r.val
    omega)
  have e1 : (((cfg0.win 5).blk t).view.emb (ix2 r o) 1 : Fin 4096) = o := Fin.ext (by
    blk_simp [index_5]
    rfl)
  exact congrArg₂ (fun (p : Fin 13824) (o : Fin 4096) => (∑ k : Fin 3584, codeAt (argX m c) (argG m c) (argH m c) p k * weightAt (argQ m c) k o)
    * scaleAt (argX m c) (argG m c) (argH m c) p * (argS m c (ix1 o) : EReal)) e0.symm e1.symm

/-- The second array holds the codes. -/
theorem final_1 : (dats m 0 c).arrAt 6 cfg0.N = result1 (argX m c) (argG m c) (argH m c) := by
  refine (dats m 0 c).arrAt_eq_of_covers 6 _ (by decide +kernel) fun t hf y => ?_
  blk_simp
  rw [after_6]
  obtain ⟨r, k, rfl⟩ : ∃ (r : Fin 256) (k : Fin 3584), y = ix2 r k := ⟨y 0, y 1, eq_ix2 y⟩
  refine (codeTile_row m c t.val r k).trans ?_
  have e0 : (((cfg0.win 6).blk t).view.emb (ix2 r k) 0 : Fin 13824) = tileRow t.val r := Fin.ext (by
    blk_simp [index_6]
    show min t.val 53 * 256 + r.val = 256 * min t.val 53 + r.val
    omega)
  have e1 : (((cfg0.win 6).blk t).view.emb (ix2 r k) 1 : Fin 3584) = k := Fin.ext (by
    blk_simp [index_6]
    rfl)
  exact congrArg₂ (fun (p : Fin 13824) (k : Fin 3584) => Ideal.fptosi 8 (codeAt (argX m c) (argG m c) (argH m c) p k)) e0.symm e1.symm

/-- The third array holds the scales. -/
theorem final_2 : (dats m 0 c).arrAt 7 cfg0.N = result2 (argX m c) (argG m c) (argH m c) := by
  refine (dats m 0 c).arrAt_eq_of_covers 7 _ (by decide +kernel) fun t hf y => ?_
  blk_simp
  rw [after_7]
  obtain ⟨r, l, rfl⟩ : ∃ (r : Fin 2) (l : Fin 128), y = ix3 (0 : Fin 1) r l := ⟨y 1, y 2, by
    refine (eq_ix3 y).trans (congrArg (fun z => ix3 z (y 1) (y 2)) (Fin.ext ?_))
    have h : (y 0).val < 1 := (y 0).isLt
    show (y 0).val = 0
    omega⟩
  refine (scaleTile_row m c t.val r l).trans ?_
  have e0 : (((cfg0.win 7).blk t).view.emb (ix3 (0 : Fin 1) r l) 0 : Fin 54) = (⟨min t.val 53, by omega⟩ : Fin 54) := Fin.ext (by
    blk_simp [index_7])
  have e1 : (((cfg0.win 7).blk t).view.emb (ix3 (0 : Fin 1) r l) 1 : Fin 2) = r := Fin.ext (by
    blk_simp [index_7]
    rfl)
  have e2 : (((cfg0.win 7).blk t).view.emb (ix3 (0 : Fin 1) r l) 2 : Fin 128) = l := Fin.ext (by
    blk_simp [index_7]
    rfl)
  refine (congrArg₂ (fun (p : Fin 54) (q : Fin 256) => scaleAt (argX m c) (argG m c) (argH m c) (mix 13824 p q)) e0.symm ?_ : _)
  exact congrArg₂ (fun (a : Fin 2) (b : Fin 128) => (mix 256 a b : Fin 256)) e1.symm e2.symm

end Cert.Mean

end
-- ==== Proof.Value.Word.lean ====
/- The 4-bit fields of a word, read in the two ways that kernel and reference read them; a rounded value as an
   8-bit integer and back; a supremum by blocks. -/
module

public import proofs.«01_k».proof.Proof.Value.Quant
public import proofs.«01_k».proof.Proof.Value.Tile

@[expose] public section

set_option maxRecDepth 16384

noncomputable section

namespace Cert.Mean

open Idealize.ShloMosaic Idealize.ShloMosaic.ValueIdx Cert.Index

/-- A 4-bit number from 8 on counts as itself less 16. -/
theorem signed_field (v : BitVec 4) :
    Scalar.select (IntOp.cmpi .sge (v.setWidth 32) 8#32) (IntOp.subi (v.setWidth 32) 16#32) (v.setWidth 32) = v.signExtend 32 := by
  have h : ∀ k : Fin 16, Scalar.select (IntOp.cmpi .sge ((BitVec.ofFin k : BitVec 4).setWidth 32) 8#32)
      (IntOp.subi ((BitVec.ofFin k : BitVec 4).setWidth 32) 16#32) ((BitVec.ofFin k : BitVec 4).setWidth 32)
      = (BitVec.ofFin k : BitVec 4).signExtend 32 := by decide +kernel
  exact h v.toFin

/-- The field moved down and the rest cleared. -/
theorem low_field (w : BitVec 32) (r : Fin 8) :
    IntOp.andi (IntOp.shrui .host w (IntOp.muli 4#32 (BitVec.ofNat 32 r.val))) 15#32 = (w.extractLsb' (4 * r.val) 4).setWidth 32 := by
  have ha : (IntOp.muli 4#32 (BitVec.ofNat 32 r.val)).toNat = 4 * r.val := by revert r; decide +kernel
  have h15 : ∀ i : Fin 32, (15#32 : BitVec 32).getLsbD i.val = decide (i.val < 4) := by decide +kernel
  have hr := r.isLt
  unfold IntOp.andi IntOp.shrui
  rw [if_pos (by omega)]
  apply BitVec.eq_of_getLsbD_eq
  intro i hi
  rw [BitVec.ushiftRight_eq', ha, BitVec.getLsbD_and, h15 ⟨i, hi⟩, BitVec.getLsbD_ushiftRight, BitVec.getLsbD_setWidth, BitVec.getLsbD_extractLsb']
  simp only [hi, decide_true, Bool.true_and]
  exact Bool.and_comm _ _

/-- The field moved to the top and back with its sign. -/
theorem high_field (w : BitVec 32) (r : Fin 8) :
    IntOp.shrsi .vector (IntOp.shli .vector w (IntOp.subi 28#32 (IntOp.muli 4#32 (BitVec.ofNat 32 r.val)))) 28#32
      = (w.extractLsb' (4 * r.val) 4).signExtend 32 := by
  have ha : (IntOp.subi 28#32 (IntOp.muli 4#32 (BitVec.ofNat 32 r.val))).toNat = 28 - 4 * r.val := by revert r; decide +kernel
  have hr := r.isLt
  unfold IntOp.shrsi IntOp.shli
  rw [if_pos (by decide), if_pos (by omega)]
  apply BitVec.eq_of_getLsbD_eq
  intro i hi
  rw [BitVec.shiftLeft_eq', ha, BitVec.sshiftRight', BitVec.getLsbD_sshiftRight, BitVec.getLsbD_signExtend, BitVec.msb_eq_getLsbD_last,
    BitVec.msb_eq_getLsbD_last, BitVec.getLsbD_shiftLeft, BitVec.getLsbD_shiftLeft, BitVec.getLsbD_extractLsb', BitVec.getLsbD_extractLsb']
  have h28 : (28#32 : BitVec 32).toNat = 28 := rfl
  rw [h28]
  by_cases h4 : i < 4
  · have e : 28 + i - (28 - 4 * r.val) = 4 * r.val + i := by omega
    simp [h4, hi, e, show 28 + i < 32 by omega, show ¬ (32 ≤ i) by omega]
    omega
  · have e : 31 - (28 - 4 * r.val) = 4 * r.val + 3 := by omega
    simp [h4, hi, e, show ¬ (28 + i < 32) by omega, show ¬ (32 ≤ i) by omega]
    omega

/-- The two readings of a field agree. -/
theorem field_eq (w : BitVec 32) (r : Fin 8) (n : BitVec 32)
    (hn : n = IntOp.andi (IntOp.shrui .host w (IntOp.muli 4#32 (BitVec.ofNat 32 r.val))) 15#32) :
    (((Scalar.select (IntOp.cmpi .sge n 8#32) (IntOp.subi n 16#32) n).toInt : ℝ) : EReal) = field w r := by
  unfold field
  rw [hn, low_field, signed_field, high_field]

/-- A rounded value is an integer from -7 to 7. -/
theorem rounded_int (v s : EReal) : ∃ n : ℤ, -7 ≤ n ∧ n ≤ 7 ∧ rounded v s = ((n : ℝ) : EReal) := by
  have h7 : ((7#32 : BitVec 32).toInt : ℝ) = 7 := by
    have : (7#32 : BitVec 32).toInt = 7 := by decide
    rw [this]; norm_num
  have hm : ((4294967289#32 : BitVec 32).toInt : ℝ) = -7 := by
    have : (4294967289#32 : BitVec 32).toInt = -7 := by decide
    rw [this]; norm_num
  unfold rounded
  rw [h7, hm]
  generalize Ideal.div v s = x
  induction x with
  | bot =>
    refine ⟨-7, by norm_num, by norm_num, ?_⟩
    show min ((7 : ℝ) : EReal) (max ((-7 : ℝ) : EReal) ⊥) = _
    rw [max_eq_left bot_le, min_eq_right (EReal.coe_le_coe_iff.2 (by norm_num))]
    norm_num
  | top =>
    refine ⟨7, by norm_num, by norm_num, ?_⟩
    show min ((7 : ℝ) : EReal) (max ((-7 : ℝ) : EReal) ⊤) = _
    rw [max_eq_right le_top, min_eq_left le_top]
    norm_num
  | coe x =>
    refine ⟨min 7 (max (-7) (Ideal.roundHalfEven x)), by omega, by omega, ?_⟩
    show min ((7 : ℝ) : EReal) (max ((-7 : ℝ) : EReal) ((Ideal.roundHalfEven x : ℝ) : EReal)) = _
    rw [← (EReal.coe_strictMono.monotone.map_max), ← (EReal.coe_strictMono.monotone.map_min)]
    push_cast
    rfl

/-- A rounded value is itself again after the way through an 8-bit integer. -/
theorem rounded_back (v s : EReal) : (((Ideal.fptosi 8 (rounded v s)).toInt : ℝ) : EReal) = rounded v s := by
  obtain ⟨n, h1, h2, e⟩ := rounded_int v s
  rw [e]
  have hc : Ideal.toIntClamped (-(2 ^ (8 - 1) : Nat)) ((2 ^ (8 - 1) : Nat) - 1) ((n : ℝ) : EReal) = n := by
    show max _ (min _ (if (0 : ℝ) ≤ (n : ℝ) then ⌊(n : ℝ)⌋ else ⌈(n : ℝ)⌉)) = n
    rw [Int.floor_intCast, Int.ceil_intCast, ite_self]
    norm_num
    omega
  unfold Ideal.fptosi
  rw [hc]
  have : (BitVec.ofInt 8 n).toInt = n := by
    rw [BitVec.toInt_ofInt, Int.bmod_def]
    norm_num
    omega
  rw [this]

/-- A supremum by blocks. -/
theorem sup_mix {m n N : Nat} (h : m * n = N) (f : Fin N → EReal) :
    (Finset.univ.sup f) = Finset.univ.sup fun a : Fin m => Finset.univ.sup fun b : Fin n => f (mix N a b h) := by
  refine le_antisymm (Finset.sup_le fun k _ => ?_) (Finset.sup_le fun a _ => Finset.sup_le fun b _ => Finset.le_sup (f := f) (Finset.mem_univ _))
  obtain ⟨a, b, rfl⟩ := exists_mix (m := m) (n := n) (N := N) h k
  exact (Finset.le_sup (f := fun b : Fin n => f (mix N a b h)) (Finset.mem_univ b)).trans
    (Finset.le_sup (f := fun a : Fin m => Finset.univ.sup fun b : Fin n => f (mix N a b h)) (Finset.mem_univ a))

end Cert.Mean

end
-- ==== Proof.Value.RefBody.lean ====
/- The reference's body, entry by entry: a row's scale, its codes, and the product with the weight. -/
module

public import proofs.«01_k».proof.Proof.Value.Word
public import proofs.«01_k».proof.Proof.Gen.ReferenceIdeal.Frame
public import Idealize.ShloMosaic.Lib.Pointwise.ElementwiseCore

@[expose] public section

set_option maxRecDepth 16384

noncomputable section

namespace Cert.Mean

open Idealize.ShloMosaic Idealize.ShloMosaic.ValueIdx Cert.Index Cert.ReferenceIdeal Cert.ReferenceIdeal.Gen

/-- A row in its 28 groups of 128. -/
def rowOf (v : Vec Ideal S13824x3584 .f32) (p : Fin 13824) (i : Fin 28) (l : Fin 128) : EReal := v (ix2 p (mix 3584 i l : Fin 3584))

/-- The largest magnitude of a row. -/
theorem rowLargest_apply (v : Vec Ideal S13824x3584 .f32) (h1 : S13824x3584.Reduces [1] S13824) (hc : S13824.ShapeCasts S13824x1)
    (hφ : FKind.Formats .f32) (hacc : (0xFF800000#32 : BitVec 32) = FKind.maximumf.neutral .f32 hφ) (p : Fin 13824) (u : Fin 1) :
    shapeCast S13824x1 (multiReduction .maximumf [1] S13824 (absf (k0_pay2 (F := Ideal) v)) 0xFF800000#32 h1 hφ hacc) hc (ix2 p u)
      = largest (rowOf v p) := by
  rw [shapeCast_apply _ hc (ix2 p u) (ix1 p) (by
    rw [Shape.rowMajor_val_two, Shape.rowMajor_val_one]
    have := u.isLt
    show p.val = p.val * 1 + u.val
    omega)]
  refine (max_axis _ h1 hφ hacc _).trans ?_
  have e : ∀ k : Fin 3584, h1.lift (ix1 p) k = ix2 p k := fun k => by
    funext c; match c with | ⟨0, _⟩ => rfl | ⟨1, _⟩ => rfl
  have a : ∀ k : Fin 3584, absf (k0_pay2 (F := Ideal) v) (h1.lift (ix1 p) k) = max (v (ix2 p k) : EReal) (-(v (ix2 p k))) := fun k => by
    rw [e]
    unfold k0_pay2
    rw [shapeCast_self]
    rfl
  refine (Finset.sup_congr rfl fun k _ => a k).trans ?_
  exact sup_mix (m := 28) (n := 128) (N := 3584) rfl _

/-- The scales to a column of largest magnitudes. -/
def scaleVec (x : FVec Ideal S13824x1 .f32) : FVec Ideal S13824x1 .f32 :=
  select (cmpf .oeq x (broadcast S13824x1 (Scalar.ofBits (F := Ideal) .f32 0x00000000#32))) (broadcast S13824x1 (Scalar.ofBits (F := Ideal) .f32 0x3F800000#32))
    (divf x (broadcast S13824x1 (Scalar.ofBits (F := Ideal) .f32 0x40E00000#32)))

theorem scaleVec_apply (x : FVec Ideal S13824x1 .f32) (j : S13824x1.Idx) : scaleVec x j = scaleOf (x j) := rfl

/-- The scale of a row. -/
theorem pay3_apply (v : Vec Ideal S13824x3584 .f32) (p : Fin 13824) (u : Fin 1) :
    k0_pay3 (F := Ideal) v (ix2 p u) = scaleOf (largest (rowOf v p)) := by
  have e : k0_pay3 (F := Ideal) v = scaleVec (shapeCast S13824x1 (multiReduction .maximumf [1] S13824 (absf (k0_pay2 (F := Ideal) v)) 0xFF800000#32
      reduces_S13824x3584_S13824 (.inl rfl) rfl) shapeCasts_S13824_S13824x1) := by unfold k0_pay3 scaleVec; rfl
  rw [e, scaleVec_apply]
  exact congrArg scaleOf (rowLargest_apply v _ _ (.inl rfl) rfl p u)

/-- The codes of a row. -/
theorem pay4_apply (v : Vec Ideal S13824x3584 .f32) (p : Fin 13824) (k : Fin 3584) :
    k0_pay4 (F := Ideal) v (ix2 p k) = Ideal.fptosi 8 (rounded (v (ix2 p k)) (scaleOf (largest (rowOf v p)))) := by
  have e : divf (k0_pay2 (F := Ideal) v) (broadcastTo S13824x3584 (k0_pay3 (F := Ideal) v) broadcasts_S13824x1_S13824x3584) (ix2 p k)
      = Ideal.div (v (ix2 p k)) (scaleOf (largest (rowOf v p))) := by
    rw [divf_apply, broadcastTo_apply _ _ (ix2 p k) (ix2 p (0 : Fin 1)) (fun c => match c with | ⟨0, _⟩ => rfl | ⟨1, _⟩ => rfl), pay3_apply]
    unfold k0_pay2
    rw [shapeCast_self]
  unfold k0_pay4
  rw [fptosi_apply, minimumf_apply, maximumf_apply, roundeven_apply, broadcast_apply, broadcast_apply, e]
  rfl

/-- A weight of the block, from its word. -/
def signedWord (w : BitVec 32) : EReal :=
  (((Scalar.select (IntOp.cmpi .sge (IntOp.andi w 15#32) 8#32) (IntOp.subi (IntOp.andi w 15#32) 16#32) (IntOp.andi w 15#32)).toInt : ℝ) : EReal)

/-- The product. -/
theorem pay5_apply (v : Vec Ideal S13824x3584 .f32) (q : Vec Ideal S4096x3584 .i32) (s : Vec Ideal S1x4096 .f32) (p : Fin 13824) (o : Fin 4096) :
    k0_pay5 (F := Ideal) v q s (ix2 p o)
      = (∑ k : Fin 3584, rounded (v (ix2 p k)) (scaleOf (largest (rowOf v p))) * signedWord (q (ix2 o k)))
        * scaleOf (largest (rowOf v p)) * s (ix2 (0 : Fin 1) o) := by
  unfold k0_pay5
  rw [truncf_apply, mulf_apply, mulf_apply]
  refine congrArg₂ _ (congrArg₂ _ ?_ ?_) ?_
  · refine (matmul_transposed_apply (φ₁ := .bf16) (φ₂ := .bf16) (M := 13824) (K := 3584) (N := 4096) none
      dot_S13824x3584_S4096x3584_S13824x4096_1_1_0_0_n_n rfl _ _ p o).trans (Finset.sum_congr rfl fun k _ => congrArg₂ _ ?_ ?_)
    · rw [sitofp_apply, pay4_apply]
      exact rounded_back _ _
    · rw [shapeCast_self]
      rfl
  · rw [broadcastTo_apply _ _ (ix2 p o) (ix2 p (0 : Fin 1)) (fun c => match c with | ⟨0, _⟩ => rfl | ⟨1, _⟩ => rfl), pay3_apply]
  · rw [broadcastTo_apply _ _ (ix2 p o) (ix2 (0 : Fin 1) o) (fun c => match c with | ⟨0, _⟩ => rfl | ⟨1, _⟩ => rfl), shapeCast_self]

/-- The scales, 256 to a tile. -/
theorem pay1_apply (x : FVec Ideal S13824x1 .f32) (t : Fin 54) (r : Fin 2) (l : Fin 128) :
    k0_pay1 x (ix3 t r l) = x (ix2 (mix 13824 t (mix 256 r l : Fin 256) : Fin 13824) (0 : Fin 1)) := by
  unfold k0_pay1
  refine shapeCast_apply _ _ _ _ ?_
  rw [Shape.rowMajor_val_two, Shape.rowMajor_val_three]
  show (256 * t.val + (128 * r.val + l.val)) * 1 + 0 = (t.val * 2 + r.val) * 128 + l.val
  omega

end Cert.Mean

end
-- ==== Proof.Value.RefHost.lean ====
/- What the reference's host operations give the body: every token rotated, the words' 4-bit fields moved down, and
   the weight's scales as a row. -/
module

public import proofs.«01_k».proof.Proof.Value.Mean
public import proofs.«01_k».proof.Proof.Gen.ReferenceIdeal.Frame
public import Idealize.ShloMosaic.Lib.Claim

@[expose] public section

set_option maxRecDepth 16384

noncomputable section

namespace Cert.Mean

open Idealize.ShloMosaic Idealize.ShloMosaic.TcCoe Idealize.ShloMosaic.ValueIdx Cert.Index Cert.ReferenceIdeal Cert.ReferenceIdeal.Gen

/-- The first product: within each group. -/
theorem inner_apply (prec : Option ContractPrecision) (A : FVec Ideal S12x1152x28x128 .bf16) (B : FVec Ideal S128x128 .bf16)
    (b : Fin 12) (s : Fin 1152) (a : Fin 28) (l : Fin 128) :
    Host.dotGeneral (F := Ideal) dot_S12x1152x28x128_S128x128_S12x1152x28x128_3_0_012_1_n_n prec A B (ix4 b s a l)
      = ∑ j : Fin 128, (A (ix4 b s a j) : EReal) * B (ix2 j l) := by
  show FloatOps.dotGeneral _ prec _ A B (ix4 b s a l) = _
  rw [Ideal.dotGeneral_apply, ← Equiv.sum_comp (contrEquiv1 dot_S12x1152x28x128_S128x128_S12x1152x28x128_3_0_012_1_n_n 128 rfl rfl).symm]
  refine Finset.sum_congr rfl fun j _ => ?_
  have c3 := contrEquiv1_symm_val dot_S12x1152x28x128_S128x128_S12x1152x28x128_3_0_012_1_n_n 128 rfl rfl j
  refine congrArg₂ _ (congrArg A ?_) (congrArg B ?_)
  · funext ax
    apply Fin.ext
    match ax with
    | ⟨0, _⟩ => rfl
    | ⟨1, _⟩ => rfl
    | ⟨2, _⟩ => rfl
    | ⟨3, _⟩ => exact c3
  · funext ax
    apply Fin.ext
    match ax with
    | ⟨0, _⟩ => exact c3
    | ⟨1, _⟩ => rfl

/-- The second product: across the groups. -/
theorem outer_apply (prec : Option ContractPrecision) (A : FVec Ideal S28x28 .f32) (B : FVec Ideal S12x1152x28x128 .f32)
    (i : Fin 28) (b : Fin 12) (s : Fin 1152) (l : Fin 128) :
    Host.dotGeneral (F := Ideal) dot_S28x28_S12x1152x28x128_S28x12x1152x128_0_2_1_013_n_n prec A B (ix4 i b s l)
      = ∑ a : Fin 28, (A (ix2 a i) : EReal) * B (ix4 b s a l) := by
  show FloatOps.dotGeneral _ prec _ A B (ix4 i b s l) = _
  rw [Ideal.dotGeneral_apply, ← Equiv.sum_comp (contrEquiv1 dot_S28x28_S12x1152x28x128_S28x12x1152x128_0_2_1_013_n_n 28 rfl rfl).symm]
  refine Finset.sum_congr rfl fun a _ => ?_
  have c3 := contrEquiv1_symm_val dot_S28x28_S12x1152x28x128_S28x12x1152x128_0_2_1_013_n_n 28 rfl rfl a
  refine congrArg₂ _ (congrArg A ?_) (congrArg B ?_)
  · funext ax
    apply Fin.ext
    match ax with
    | ⟨0, _⟩ => exact c3
    | ⟨1, _⟩ => rfl
  · funext ax
    apply Fin.ext
    match ax with
    | ⟨0, _⟩ => rfl
    | ⟨1, _⟩ => rfl
    | ⟨2, _⟩ => exact c3
    | ⟨3, _⟩ => rfl

/-- The rows the body reads. -/
def hostRows (X : Vec Ideal S12x1152x3584 .bf16) (G : Vec Ideal S28x28 .bf16) (H : Vec Ideal S128x128 .bf16) : Vec Ideal S13824x3584 .f32 :=
  shapeCast S13824x3584 (mulf (transpose S12x1152x28x128 [1, 2, 0, 3]
    (Host.dotGeneral (F := Ideal) dot_S28x28_S12x1152x28x128_S28x12x1152x128_0_2_1_013_n_n (some .fp32) (extf .f32 G bitsLt_bf16_f32)
      (Host.dotGeneral (F := Ideal) (φ₁ := .bf16) (φ₂ := .bf16) dot_S12x1152x28x128_S128x128_S12x1152x28x128_3_0_012_1_n_n none
        (shapeCast S12x1152x28x128 X shapeCasts_S12x1152x3584_S12x1152x28x128) H)) transposes_S28x12x1152x128_S12x1152x28x128_1_2_0_3)
    (broadcastInDim S12x1152x28x128 ![] bcast_S_S12x1152x28x128 (constant S_ .f32 0x3C88D677#32))) shapeCasts_S12x1152x28x128_S13824x3584

/-- The words the body reads. -/
def hostWords (Q : Vec Ideal S4096x448 .i32) : Vec Ideal S4096x3584 .i32 :=
  shapeCast S4096x3584 (Host.shrui (broadcastInDim S4096x448x8 ![0, 1, 2] bcast_S4096x448x1_S4096x448x8_0_1_2
      (broadcastInDim S4096x448x1 ![0, 1] bcast_S4096x448_S4096x448x1_0_1 Q))
    (broadcastInDim S4096x448x8 ![0, 1, 2] bcast_S1x1x8_S4096x448x8_0_1_2 (broadcastInDim S1x1x8 ![2] bcast_S8_S1x1x8_2
      (muli (broadcastInDim S8 ![] bcast_S_S8 (constantI S_ 32 4#32)) (iotaInDim S8 32 0))))) shapeCasts_S4096x448x8_S4096x3584

/-- A row is its token, rotated. -/
theorem hostRows_apply (X : Vec Ideal S12x1152x3584 .bf16) (G : Vec Ideal S28x28 .bf16) (H : Vec Ideal S128x128 .bf16)
    (p : Fin 13824) (i : Fin 28) (l : Fin 128) : hostRows X G H (ix2 p (mix 3584 i l : Fin 3584)) = turned X G H p i l := by
  have hp := p.isLt
  unfold hostRows turned
  rw [shapeCast_apply _ _ (ix2 p (mix 3584 i l : Fin 3584)) (ix4 (⟨p.val / 1152, by omega⟩ : Fin 12) (⟨p.val % 1152, Nat.mod_lt _ (by decide)⟩ : Fin 1152) i l) (by
    rw [Shape.rowMajor_val_two, Shape.rowMajor_val_four]
    show ((p.val / 1152 * 1152 + p.val % 1152) * 28 + i.val) * 128 + l.val = p.val * 3584 + (128 * i.val + l.val)
    omega), mulf_apply]
  refine congrArg₂ _ ?_ rfl
  rw [transpose_apply _ _ _ _ (ix4 i (⟨p.val / 1152, by omega⟩ : Fin 12) (⟨p.val % 1152, Nat.mod_lt _ (by decide)⟩ : Fin 1152) l)
    (fun c => match c with | ⟨0, _⟩ => rfl | ⟨1, _⟩ => rfl | ⟨2, _⟩ => rfl | ⟨3, _⟩ => rfl), outer_apply]
  unfold outer inner
  refine Finset.sum_congr rfl fun a _ => congrArg₂ _ rfl ?_
  rw [inner_apply]
  refine Finset.sum_congr rfl fun j _ => congrArg₂ _ ?_ rfl
  refine shapeCast_apply _ _ _ _ ?_
  rw [Shape.rowMajor_val_three, Shape.rowMajor_val_four]
  show (p.val / 1152 * 1152 + p.val % 1152) * 3584 + (128 * a.val + j.val) = ((p.val / 1152 * 1152 + p.val % 1152) * 28 + a.val) * 128 + j.val
  omega

/-- A word is the packed word moved down to its field. -/
theorem hostWords_apply (Q : Vec Ideal S4096x448 .i32) (o : Fin 4096) (k : Fin 448) (r : Fin 8) :
    hostWords Q (ix2 o (mix 3584 k r : Fin 3584)) = IntOp.shrui .host (Q (ix2 o k)) (IntOp.muli 4#32 (BitVec.ofNat 32 r.val)) := by
  unfold hostWords
  rw [shapeCast_apply _ _ (ix2 o (mix 3584 k r : Fin 3584)) (ix3 o k r) (by
    rw [Shape.rowMajor_val_two, Shape.rowMajor_val_three]
    show (o.val * 448 + k.val) * 8 + r.val = o.val * 3584 + (8 * k.val + r.val)
    omega)]
  unfold Host.shrui
  refine congrArg₂ _ ?_ ?_
  · rw [broadcastInDim_apply _ _ _ (ix3 o k r) (ix3 o k (0 : Fin 1)) (fun c => match c with | ⟨0, _⟩ => rfl | ⟨1, _⟩ => rfl | ⟨2, _⟩ => rfl)]
    exact broadcastInDim_apply _ _ _ _ _ (fun c => match c with | ⟨0, _⟩ => rfl | ⟨1, _⟩ => rfl)
  · rw [broadcastInDim_apply _ _ _ (ix3 o k r) (ix3 (0 : Fin 1) (0 : Fin 1) r) (fun c => match c with | ⟨0, _⟩ => rfl | ⟨1, _⟩ => rfl | ⟨2, _⟩ => rfl),
      broadcastInDim_apply _ _ _ _ (ix1 r) (fun c => match c with | ⟨0, _⟩ => rfl)]
    rfl

variable (m : (ℓ : Loc nD τ sig) → Buf (Elt Ideal) ℓ) (c : Dev nD)

/-- The five arguments as launched. -/
abbrev refX : Vec Ideal S12x1152x3584 .bf16 := m ((c : Thread nD τ).loc main_arg0)
abbrev refG : Vec Ideal S28x28 .bf16 := m ((c : Thread nD τ).loc main_arg1)
abbrev refH : Vec Ideal S128x128 .bf16 := m ((c : Thread nD τ).loc main_arg2)
abbrev refQ : Vec Ideal S4096x448 .i32 := m ((c : Thread nD τ).loc main_arg3)
abbrev refS : Vec Ideal S4096 .f32 := m ((c : Thread nD τ).loc main_arg4)

theorem V_rows : (V m c main_v7 : Vec Ideal S13824x3584 .f32) = hostRows (refX m c) (refG m c) (refH m c) := by
  entry_read
  rfl

theorem V_words : (V m c main_v17 : Vec Ideal S4096x3584 .i32) = hostWords (refQ m c) := by
  entry_read
  rfl

theorem V_scales (o : Fin 4096) : (V m c main_v18 : Vec Ideal S1x4096 .f32) (ix2 (0 : Fin 1) o) = refS m c (ix1 o) := by
  entry_read
  refine shapeCast_apply _ _ _ _ ?_
  refine (Shape.rowMajor_val_one (d := ![4096]) _).trans ((Shape.rowMajor_val_two (d := ![1, 4096]) _).trans ?_).symm
  show 0 * 4096 + o.val = o.val
  omega

end Cert.Mean

end
-- ==== Proof.Value.RefArrays.lean ====
/- What the reference's three arrays hold after the run. -/
module

public import proofs.«01_k».proof.Proof.Value.RefBody
public import proofs.«01_k».proof.Proof.Value.RefHost
public import Idealize.ShloMosaic.Lib.Pipeline.ValueKit.Geometry

@[expose] public section

set_option maxRecDepth 16384

noncomputable section

namespace Cert.Mean

open Idealize.ShloMosaic Idealize.ShloMosaic.TcCoe Idealize.ShloMosaic.ValueIdx Cert.Index Cert.ReferenceIdeal Cert.ReferenceIdeal.Gen

variable (m : (ℓ : Loc nD τ sig) → Buf (Elt Ideal) ℓ) (c : Dev nD)

theorem ref_index_0 (t : Fin cfg0.N) : win0_0.index t = ![0, 0] := by funext a; match a with | ⟨0, _⟩ => rfl | ⟨1, _⟩ => rfl
theorem ref_index_1 (t : Fin cfg0.N) : win0_1.index t = ![0, 0] := by funext a; match a with | ⟨0, _⟩ => rfl | ⟨1, _⟩ => rfl
theorem ref_index_2 (t : Fin cfg0.N) : win0_2.index t = ![0, 0] := by funext a; match a with | ⟨0, _⟩ => rfl | ⟨1, _⟩ => rfl
theorem ref_index_3 (t : Fin cfg0.N) : win0_3.index t = ![0, 0] := by funext a; match a with | ⟨0, _⟩ => rfl | ⟨1, _⟩ => rfl
theorem ref_index_4 (t : Fin cfg0.N) : win0_4.index t = ![0, 0] := by funext a; match a with | ⟨0, _⟩ => rfl | ⟨1, _⟩ => rfl
theorem ref_index_5 (t : Fin cfg0.N) : win0_5.index t = ![0, 0, 0] := by funext a; match a with | ⟨0, _⟩ => rfl | ⟨1, _⟩ => rfl | ⟨2, _⟩ => rfl

theorem refBlock_0 (t : Fin cfg0.N) : (iblk m c 0 t : Vec Ideal S13824x3584 .f32) = hostRows (refX m c) (refG m c) (refH m c) := by
  rw [← V_rows]
  funext y
  blk_simp [iblk]
  exact congrArg _ (by blk_ext [ref_index_0])

theorem refBlock_1 (t : Fin cfg0.N) : (iblk m c 1 t : Vec Ideal S4096x3584 .i32) = hostWords (refQ m c) := by
  rw [← V_words]
  funext y
  blk_simp [iblk]
  exact congrArg _ (by blk_ext [ref_index_1])

theorem refBlock_2 (t : Fin cfg0.N) (o : Fin 4096) : (iblk m c 2 t : Vec Ideal S1x4096 .f32) (ix2 (0 : Fin 1) o) = refS m c (ix1 o) := by
  rw [← V_scales]
  blk_simp [iblk]
  exact congrArg _ (by blk_ext [ref_index_2])

/-- Row `p` of the body's first operand, in groups. -/
theorem rowOf_hostRows (X : Vec Ideal S12x1152x3584 .bf16) (G : Vec Ideal S28x28 .bf16) (H : Vec Ideal S128x128 .bf16) (p : Fin 13824) :
    rowOf (hostRows X G H) p = turned X G H p := by
  funext i l
  exact hostRows_apply X G H p i l

/-- A value of row `p`, rounded to the row's scale. -/
theorem rounded_hostRows (X : Vec Ideal S12x1152x3584 .bf16) (G : Vec Ideal S28x28 .bf16) (H : Vec Ideal S128x128 .bf16) (p : Fin 13824) (k : Fin 3584) :
    rounded (hostRows X G H (ix2 p k)) (scaleOf (largest (rowOf (hostRows X G H) p))) = codeAt X G H p k := by
  rw [rowOf_hostRows]
  obtain ⟨i, l, rfl⟩ := exists_mix (m := 28) (n := 128) (N := 3584) rfl k
  rw [codeAt_mix, hostRows_apply]
  rfl

/-- A word's weight. -/
theorem signed_hostWords (Q : Vec Ideal S4096x448 .i32) (o : Fin 4096) (k : Fin 3584) :
    signedWord (hostWords Q (ix2 o k)) = weightAt Q k o := by
  obtain ⟨k, r, rfl⟩ := exists_mix (m := 448) (n := 8) (N := 3584) rfl k
  rw [weightAt_mix, hostWords_apply]
  exact field_eq _ r _ rfl

/-- The body's three blocks. -/
theorem out_0 (x0 : Vec Ideal S13824x3584 .f32) (x1 : Vec Ideal S4096x3584 .i32) (x2 : Vec Ideal S1x4096 .f32) : out0_3 x0 x1 x2 = k0_pay5 x0 x1 x2 := by
  unfold out0_3
  rw [View.canon_cons_unit_lit (S := S13824x4096) _ _ _ (by decide), View.ld_unit_lit (S := S13824x3584) _ _ (by decide),
    View.ld_unit_lit (S := S4096x3584) _ _ (by decide), View.ld_unit_lit (S := S1x4096) _ _ (by decide)]

theorem out_1 (x0 : Vec Ideal S13824x3584 .f32) (x1 : Vec Ideal S4096x3584 .i32) (x2 : Vec Ideal S1x4096 .f32) : out0_4 x0 x1 x2 = k0_pay4 x0 := by
  unfold out0_4
  rw [View.canon_cons_unit_lit (S := S13824x3584) _ _ _ (by decide), View.ld_unit_lit (S := S13824x3584) _ _ (by decide)]

theorem out_2 (x0 : Vec Ideal S13824x3584 .f32) (x1 : Vec Ideal S4096x3584 .i32) (x2 : Vec Ideal S1x4096 .f32) : out0_5 x0 x1 x2 = k0_pay1 (k0_pay3 x0) := by
  unfold out0_5
  rw [View.canon_cons_unit_lit (S := S54x2x128) _ _ _ (by decide), View.ld_unit_lit (S := S13824x3584) _ _ (by decide)]

/-- What the body leaves in each of its output blocks. -/
theorem out_0_apply (t : Fin cfg0.N) (p : Fin 13824) (o : Fin 4096) :
    out0_3 (iblk m c 0 t) (iblk m c 1 t) (iblk m c 2 t) (ix2 p o) = result0 (refX m c) (refG m c) (refH m c) (refQ m c) (refS m c) (ix2 p o) := by
  rw [out_0, refBlock_0, refBlock_1]
  refine (pay5_apply _ _ _ p o).trans ?_
  rw [refBlock_2]
  simp only [rounded_hostRows, signed_hostWords]
  rw [rowOf_hostRows]
  rfl

theorem out_1_apply (t : Fin cfg0.N) (p : Fin 13824) (k : Fin 3584) :
    out0_4 (iblk m c 0 t) (iblk m c 1 t) (iblk m c 2 t) (ix2 p k) = result1 (refX m c) (refG m c) (refH m c) (ix2 p k) := by
  rw [out_1, refBlock_0]
  refine (pay4_apply _ p k).trans ?_
  rw [rounded_hostRows]
  rfl

theorem out_2_apply (t : Fin cfg0.N) (a : Fin 54) (r : Fin 2) (l : Fin 128) :
    out0_5 (iblk m c 0 t) (iblk m c 1 t) (iblk m c 2 t) (ix3 a r l) = result2 (refX m c) (refG m c) (refH m c) (ix3 a r l) := by
  rw [out_2, refBlock_0]
  refine (pay1_apply _ a r l).trans ?_
  rw [pay3_apply, rowOf_hostRows]
  rfl

theorem emb_3 (t : Fin cfg0.N) (y : S13824x4096.Idx) : ((cfg0.win 3).blk t).view.emb y = y := by blk_ext [ref_index_3]
theorem emb_4 (t : Fin cfg0.N) (y : S13824x3584.Idx) : ((cfg0.win 4).blk t).view.emb y = y := by blk_ext [ref_index_4]
theorem emb_5 (t : Fin cfg0.N) (y : S54x2x128.Idx) : ((cfg0.win 5).blk t).view.emb y = y := by blk_ext [ref_index_5]

theorem out_0_eq (t : Fin cfg0.N) :
    out0_3 (iblk m c 0 t) (iblk m c 1 t) (iblk m c 2 t) = result0 (refX m c) (refG m c) (refH m c) (refQ m c) (refS m c) := by
  funext j
  rw [eq_ix2 j]
  exact out_0_apply m c t (j 0) (j 1)

theorem out_1_eq (t : Fin cfg0.N) : out0_4 (iblk m c 0 t) (iblk m c 1 t) (iblk m c 2 t) = result1 (refX m c) (refG m c) (refH m c) := by
  funext j
  rw [eq_ix2 j]
  exact out_1_apply m c t (j 0) (j 1)

theorem out_2_eq (t : Fin cfg0.N) : out0_5 (iblk m c 0 t) (iblk m c 1 t) (iblk m c 2 t) = result2 (refX m c) (refG m c) (refH m c) := by
  funext j
  rw [eq_ix3 j]
  exact out_2_apply m c t (j 0) (j 1) (j 2)

/-- The first array holds the product. -/
theorem ref_final_0 : (dats m 0 c).arrAt 3 cfg0.N = result0 (refX m c) (refG m c) (refH m c) (refQ m c) (refS m c) := by
  refine (dats m 0 c).arrAt_eq_of_covers 3 _ (by decide +kernel) fun t _ y => ?_
  blk_simp
  rw [after0_3, out_0_eq]
  exact (congrArg (result0 (refX m c) (refG m c) (refH m c) (refQ m c) (refS m c)) (emb_3 t y)).symm

/-- The second array holds the codes. -/
theorem ref_final_1 : (dats m 0 c).arrAt 4 cfg0.N = result1 (refX m c) (refG m c) (refH m c) := by
  refine (dats m 0 c).arrAt_eq_of_covers 4 _ (by decide +kernel) fun t _ y => ?_
  blk_simp
  rw [after0_4, out_1_eq]
  exact (congrArg (result1 (refX m c) (refG m c) (refH m c)) (emb_4 t y)).symm

/-- The third array holds the scales. -/
theorem ref_final_2 : (dats m 0 c).arrAt 5 cfg0.N = result2 (refX m c) (refG m c) (refH m c) := by
  refine (dats m 0 c).arrAt_eq_of_covers 5 _ (by decide +kernel) fun t _ y => ?_
  blk_simp
  rw [after0_5, out_2_eq]
  exact (congrArg (result2 (refX m c) (refG m c) (refH m c)) (emb_5 t y)).symm

end Cert.Mean

end
-- ==== Proof.Value.Equal.lean ====
/- Kernel and reference end with the same three arrays. -/
module

public import proofs.«01_k».proof.Defs
public import proofs.«01_k».proof.Proof.Value.Arrays
public import proofs.«01_k».proof.Proof.Value.RefArrays
public import proofs.«01_k».proof.Proof.Run.Launch

@[expose] public section

set_option maxRecDepth 16384

noncomputable section

namespace Cert.Mean

open Idealize.ShloMosaic Idealize.ShloMosaic.TcCoe Idealize.SL.Sem

/-- The kernel's run ends with the three arrays and its arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2_0) = result0 (argX m c) (argG m c) (argH m c) (argQ m c) (argS m c)
      ∧ r.2.mem ((c.tc : Thread Cert.KernelIdeal.nD Cert.KernelIdeal.τ).loc Cert.KernelIdeal.main_v2_1) = result1 (argX m c) (argG m c) (argH m c)
      ∧ r.2.mem ((c.tc : Thread Cert.KernelIdeal.nD Cert.KernelIdeal.τ).loc Cert.KernelIdeal.main_v2_2) = result2 (argX m c) (argG m c) (argH m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run _ _ _).mono (fun r hr c => ?_) (θ_run_and (Cert.KernelIdeal.Run.run_arrays m g) (Cert.KernelIdeal.Run.frame m g))
  exact ⟨(hr.1.out_eq c 5).trans (final_0 m c), (hr.1.out_eq c 6).trans (final_1 m c), (hr.1.out_eq c 7).trans (final_2 m c), hr.2.1 c⟩

/-- The reference's run likewise. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v19_0) = result0 (refX m c) (refG m c) (refH m c) (refQ m c) (refS m c)
      ∧ r.2.mem ((c.tc : Thread Cert.ReferenceIdeal.nD Cert.ReferenceIdeal.τ).loc Cert.ReferenceIdeal.main_v19_1) = result1 (refX m c) (refG m c) (refH m c)
      ∧ r.2.mem ((c.tc : Thread Cert.ReferenceIdeal.nD Cert.ReferenceIdeal.τ).loc Cert.ReferenceIdeal.main_v19_2) = result2 (refX m c) (refG m c) (refH m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) := by
  refine (θ_run _ _ _).mono (fun r hr c => ?_) (θ_run_and (Cert.ReferenceIdeal.Gen.run_main m g) (Cert.ReferenceIdeal.Gen.frame m g))
  exact ⟨(hr.1.out_eq c 3).trans (ref_final_0 m c), (hr.1.out_eq c 4).trans (ref_final_1 m c), (hr.1.out_eq c 5).trans (ref_final_2 m c), hr.2.1 c⟩

/-- From equal arguments the two end with equal arrays. -/
theorem equal : Cert.algebraic_KernelIdeal_ReferenceIdeal := by
  intro m g m' g' _ ha
  refine ⟨fun c => result0 (argX m c) (argG m c) (argH m c) (argQ m c) (argS m c), fun c => result1 (argX m c) (argG m c) (argH m c),
    fun c => result2 (argX m c) (argG m c) (argH m c), kernel_run m g, ?_⟩
  refine (θ_run _ _ _).mono (fun r hr c => ?_) (reference_run m' g')
  obtain ⟨a0, a1, a2, a3, a4⟩ := ha c
  have e0 : refX m' c = argX m c := a0
  have e1 : refG m' c = argG m c := a1
  have e2 : refH m' c = argH m c := a2
  have e3 : refQ m' c = argQ m c := a3
  have e4 : refS m' c = argS m c := a4
  have hc := hr c
  rw [e0, e1, e2, e3, e4] at hc
  exact hc

end Cert.Mean

end
-- ==== Proof.lean ====
module

public import proofs.«01_k».proof.Defs
public import proofs.«01_k».proof.Proof.Gen.Kernel
public import proofs.«01_k».proof.Proof.FrameKernel
public import proofs.«01_k».proof.Proof.Run.Launch
public import proofs.«01_k».proof.Proof.Gen.ReferenceIdeal
public import proofs.«01_k».proof.Proof.Gen.ReferenceIdeal.Frame
public import proofs.«01_k».proof.Proof.Value.Equal
public import Idealize.ShloMosaic.Adequacy
public import Idealize.ShloMosaic.Init

@[expose] public section

noncomputable section

namespace Cert.Proof

open Idealize.ShloMosaic Idealize.SL.Sem

/-- All the claims. -/
theorem claim : Cert.Claim := ⟨Cert.Kernel.Gen.facts, Cert.KernelIdeal.Gen.facts, Cert.ReferenceIdeal.Gen.facts,
  fun m g _ => Cert.Kernel.Framed.frame m g, fun m g _ => Cert.KernelIdeal.Run.frame m g, fun m g _ => Cert.ReferenceIdeal.Gen.frame m g,
  trivial, Cert.Mean.equal⟩

end Cert.Proof

end
